-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x1024 : Shape := ⟨3, ![16, 256, 1024]⟩
abbrev S1024x256 : Shape := ⟨2, ![1024, 256]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x256x1024 .f32) (main_arg1 : FVec F S1024x256 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16x256x1024 : Shape := ⟨3, ![16, 256, 1024]⟩
abbrev S1024x256 : Shape := ⟨2, ![1024, 256]⟩
abbrev S16x1x1024 : Shape := ⟨3, ![16, 1, 1024]⟩
abbrev S1x1 : Shape := ⟨2, ![1, 1]⟩
abbrev S4x256x1024 : Shape := ⟨3, ![4, 256, 1024]⟩
abbrev S4x1x1024 : Shape := ⟨3, ![4, 1, 1024]⟩
abbrev S1024 : Shape := ⟨1, ![1024]⟩
abbrev S1024x1 : Shape := ⟨2, ![1024, 1]⟩
abbrev S1x256x1024 : Shape := ⟨3, ![1, 256, 1024]⟩
abbrev S256x1024 : Shape := ⟨2, ![256, 1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S16x1024 : Shape := ⟨2, ![16, 1024]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024x256, .f32⟩
  | .hbm, ⟨2, _⟩ => ⟨S16x256x1024, .f32⟩
  | .hbm, ⟨3, _⟩ => ⟨S16x1x1024, .i32⟩
  | .hbm, ⟨4, _⟩ => ⟨S1x1, .f32⟩
  | .hbm, ⟨5, _⟩ => ⟨S16x1024, .i32⟩
  | .hbm, ⟨6, _⟩ => ⟨S_, .f32⟩
  | .local _ .vmem, ⟨0, _⟩ => ⟨S4x256x1024, .f32⟩
  | .local _ .vmem, ⟨1, _⟩ => ⟨S4x256x1024, .f32⟩
  | .local _ .vmem, ⟨2, _⟩ => ⟨S1024x256, .f32⟩
  | .local _ .vmem, ⟨3, _⟩ => ⟨S4x256x1024, .f32⟩
  | .local _ .vmem, ⟨4, _⟩ => ⟨S4x256x1024, .f32⟩
  | .local _ .vmem, ⟨5, _⟩ => ⟨S4x1x1024, .i32⟩
  | .local _ .vmem, ⟨6, _⟩ => ⟨S4x1x1024, .i32⟩
  | .local _ .vmem, ⟨7, _⟩ => ⟨S1x1, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x256x1024 : Shape := ⟨3, ![16, 256, 1024]⟩
abbrev S1024x256 : Shape := ⟨2, ![1024, 256]⟩
abbrev S16x1024x256 : Shape := ⟨3, ![16, 1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S16x1024 : Shape := ⟨2, ![16, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x256, .f32⟩
  | .hbm, ⟨2, _⟩ => ⟨S16x1024x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x256, .f32⟩
  | .hbm, ⟨45, _⟩ => ⟨S16384x256, .i1⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16x1024x256, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x256x1024, .f32⟩
  | .hbm, ⟨58, _⟩ => ⟨S16x256x1024, .f32⟩
  | .hbm, ⟨59, _⟩ => ⟨S16x1024, .i32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]
-- ==== Proof.KernelBlock.lean ====
/-
  What one grid point of the kernel computes, as functions of the two blocks it reads.

  A grid point holds four batches of the latent and the whole codebook.  For each batch it writes the codebook entry
  nearest to every time step, that entry's number, and it adds the batch's share of the loss to a running sum.  The
  four batches go through the same operations, so one set of functions (`low`, `pick`, `took`, `share`) states them.
-/
module

public import proofs.«01_k».proof.Proof.Gen.KernelIdeal.Frame
public import Idealize.ShloMosaic.Lib.Pipeline.Value
public import Idealize.ShloMosaic.Lib.ValueIdxCore

@[expose] public section

noncomputable section

open Cert.KernelIdeal Cert.KernelIdeal.Gen
open Idealize.ShloMosaic Idealize.ShloMosaic.TcCoe Idealize.SL.Sem
open Idealize.ShloMosaic.Pipeline (Dat)
open Idealize.ShloMosaic.ValueIdx

namespace Cert.KernelIdeal.Block

variable {F : FTy → Type} [FloatOps F]

/-- Batch `b` of a block of four. -/
def slab (x : Vec F S4x256x1024 .f32) (b : Fin 4) : Vec F S1x256x1024 .f32 := fun y => x (ix3 b (y 1) (y 2))

/-- Half the squared distance of every codebook entry to every time step. -/
abbrev score (cb : Vec F S1024x256 .f32) (zb : Vec F S1x256x1024 .f32) : FVec F S1024x1024 .f32 := k0_pay6 cb zb
/-- The smallest of them at every time step. -/
abbrev low (cb : Vec F S1024x256 .f32) (zb : Vec F S1x256x1024 .f32) : FVec F S1024 .f32 := k0_pay7 cb zb
/-- The first entry that reaches it. -/
abbrev pick (cb : Vec F S1024x256 .f32) (zb : Vec F S1x256x1024 .f32) : IVec S1024 32 := k0_pay8 cb zb
/-- That entry's coordinates. -/
abbrev took (cb : Vec F S1024x256 .f32) (zb : Vec F S1x256x1024 .f32) : FVec F S256x1024 .f32 := k0_pay10 cb zb
/-- The running sum with a batch's share of the loss added. -/
abbrev share (acc : FVec F S1x1 .f32) (mv : FVec F S1024 .f32) : FVec F S1x1 .f32 := k0_pay12 acc mv

/-- The four batches' entries, their numbers, and the sum of their shares. -/
def blkQ (x0 : Vec F S4x256x1024 .f32) (x1 : Vec F S1024x256 .f32) : Vec F S4x256x1024 .f32 :=
  fun y => k0_pay11 (took x1 (slab x0 (y 0))) (ix3 (0 : Fin 1) (y 1) (y 2))
def blkI (x0 : Vec F S4x256x1024 .f32) (x1 : Vec F S1024x256 .f32) : Vec F S4x1x1024 .i32 :=
  fun y => k0_pay9 x1 (slab x0 (y 0)) (ix3 (0 : Fin 1) (y 1) (y 2))
def blkL (x0 : Vec F S4x256x1024 .f32) (x1 : Vec F S1024x256 .f32) : FVec F S1x1 .f32 :=
  share (share (share (share k0_pay5 (low x1 (slab x0 0))) (low x1 (slab x0 1))) (low x1 (slab x0 2))) (low x1 (slab x0 3))

/-! ### The four batches' operations are the same -/

variable (cb : Vec F S1024x256 .f32) (zb : Vec F S1x256x1024 .f32)

theorem score1 : k0_pay13 cb (k0_pay4 cb) zb = score cb zb := rfl
theorem score2 : k0_pay20 cb (k0_pay4 cb) zb = score cb zb := rfl
theorem score3 : k0_pay27 cb (k0_pay4 cb) zb = score cb zb := rfl
theorem low1 : k0_pay14 cb (k0_pay4 cb) zb = low cb zb := by unfold k0_pay14; rw [score1]; rfl
theorem low2 : k0_pay21 cb (k0_pay4 cb) zb = low cb zb := by unfold k0_pay21; rw [score2]; rfl
theorem low3 : k0_pay28 cb (k0_pay4 cb) zb = low cb zb := by unfold k0_pay28; rw [score3]; rfl
theorem pick1 : k0_pay15 cb (k0_pay4 cb) zb = pick cb zb := by unfold k0_pay15; rw [score1, low1]; rfl
theorem pick2 : k0_pay22 cb (k0_pay4 cb) zb = pick cb zb := by unfold k0_pay22; rw [score2, low2]; rfl
theorem pick3 : k0_pay29 cb (k0_pay4 cb) zb = pick cb zb := by unfold k0_pay29; rw [score3, low3]; rfl
theorem num1 : k0_pay16 cb (k0_pay4 cb) zb = k0_pay9 cb zb := by unfold k0_pay16; rw [pick1]; rfl
theorem num2 : k0_pay23 cb (k0_pay4 cb) zb = k0_pay9 cb zb := by unfold k0_pay23; rw [pick2]; rfl
theorem num3 : k0_pay30 cb (k0_pay4 cb) zb = k0_pay9 cb zb := by unfold k0_pay30; rw [pick3]; rfl
theorem took1 : k0_pay18 (k0_pay17 cb (k0_pay4 cb) zb) = k0_pay11 (took cb zb) := by unfold k0_pay17; rw [pick1]; rfl
theorem took2 : k0_pay25 cb (k0_pay24 cb (k0_pay4 cb) zb) = k0_pay11 (took cb zb) := by unfold k0_pay24; rw [pick2]; rfl
theorem took3 : k0_pay1 cb (iota .tc S1024x1024 32 [0] iota_S1024x1024_d0_w32) (k0_pay29 cb (k0_pay4 cb) zb)
    = k0_pay11 (took cb zb) := by rw [pick3]; rfl

theorem share1 (a : FVec F S1x1 .f32) (v : FVec F S1024 .f32) : k0_pay19 a v = share a v := rfl
theorem share2 (a : FVec F S1x1 .f32) (v : FVec F S1024 .f32) : k0_pay26 a v = share a v := rfl
theorem share3 (a : FVec F S1x1 .f32) (v : FVec F S1024 .f32) (p : Vec F S1x1 .f32) :
    k0_pay3 a v p = addf (shapeCast S1x1 p shapeCasts_S1x1_S1x1) (share a v) := rfl

/-! ### Loads of a batch -/

theorem hz2 : (![0, 0] : Fin 2 → Nat) = fun _ => 0 := funext fun a => by fin_cases a <;> rfl

theorem ld_cb (x : Vec F S1024x256 .f32) (h) : View.ld x (Rect.unit (s := S1024x256) ![0, 0] ![1024, 256] h) = x :=
  View.ld_unit_zero hz2 h x
theorem ld_acc (x : Vec F S1x1 .f32) (h) : View.ld x (Rect.unit (s := S1x1) ![0, 0] ![1, 1] h) = x :=
  View.ld_unit_zero hz2 h x

theorem ld_slab (x : Vec F S4x256x1024 .f32) (b : Fin 4) (h) :
    View.ld x (Rect.unit (s := S4x256x1024) ![b.val, 0, 0] ![1, 256, 1024] h) = slab x b := by
  rw [View.ld_unit]
  funext y
  refine congrArg x (funext fun a => Fin.ext ?_)
  have h0 : (y 0).val < 1 := (y 0).isLt
  fin_cases a
  · show b.val + (y 0).val = b.val; omega
  · exact Nat.zero_add _
  · exact Nat.zero_add _

theorem at_q (b : Fin 4) (h) (y : S1x256x1024.Idx) :
    (Rect.unit (s := S4x256x1024) ![b.val, 0, 0] ![1, 256, 1024] h).emb y = ix3 b (y 1) (y 2) := by
  refine funext fun a => Fin.ext ?_
  have h0 : (y 0).val < 1 := (y 0).isLt
  fin_cases a
  · show b.val + 1 * (y 0).val = b.val; omega
  · show 0 + 1 * (y 1).val = (y 1).val; omega
  · show 0 + 1 * (y 2).val = (y 2).val; omega

theorem at_i (b : Fin 4) (h) (y : S1x1x1024.Idx) :
    (Rect.unit (s := S4x1x1024) ![b.val, 0, 0] ![1, 1, 1024] h).emb y = ix3 b (y 1) (y 2) := by
  refine funext fun a => Fin.ext ?_
  have h0 : (y 0).val < 1 := (y 0).isLt
  fin_cases a
  · show b.val + 1 * (y 0).val = b.val; omega
  · show 0 + 1 * (y 1).val = (y 1).val; omega
  · show 0 + 1 * (y 2).val = (y 2).val; omega

theorem ix_q (y : S1x256x1024.Idx) : y = ix3 (0 : Fin 1) (y 1) (y 2) :=
  (eq_ix3 y).trans (congrArg (fun a => ix3 a (y 1) (y 2)) (Subsingleton.elim (α := Fin 1) (y 0) 0))
theorem ix_i (y : S1x1x1024.Idx) : y = ix3 (0 : Fin 1) (y 1) (y 2) :=
  (eq_ix3 y).trans (congrArg (fun a => ix3 a (y 1) (y 2)) (Subsingleton.elim (α := Fin 1) (y 0) 0))

theorem piece_q (x0 : Vec F S4x256x1024 .f32) (x1 : Vec F S1024x256 .f32) (b : Fin 4) (h) (y : S1x256x1024.Idx) :
    k0_pay11 (took x1 (slab x0 b)) y
      = blkQ x0 x1 ((Rect.unit (s := S4x256x1024) ![b.val, 0, 0] ![1, 256, 1024] h).emb y) := by
  rw [at_q b h y]; exact congrArg _ (ix_q y)
theorem piece_i (x0 : Vec F S4x256x1024 .f32) (x1 : Vec F S1024x256 .f32) (b : Fin 4) (h) (y : S1x1x1024.Idx) :
    k0_pay9 x1 (slab x0 b) y
      = blkI x0 x1 ((Rect.unit (s := S4x1x1024) ![b.val, 0, 0] ![1, 1, 1024] h).emb y) := by
  rw [at_i b h y]; exact congrArg _ (ix_i y)

theorem ld_slab0 (x : Vec F S4x256x1024 .f32) (h) :
    View.ld x (Rect.unit (s := S4x256x1024) ![0, 0, 0] ![1, 256, 1024] h) = slab x 0 := ld_slab x 0 h
theorem ld_slab1 (x : Vec F S4x256x1024 .f32) (h) :
    View.ld x (Rect.unit (s := S4x256x1024) ![1, 0, 0] ![1, 256, 1024] h) = slab x 1 := ld_slab x 1 h
theorem ld_slab2 (x : Vec F S4x256x1024 .f32) (h) :
    View.ld x (Rect.unit (s := S4x256x1024) ![2, 0, 0] ![1, 256, 1024] h) = slab x 2 := ld_slab x 2 h
theorem ld_slab3 (x : Vec F S4x256x1024 .f32) (h) :
    View.ld x (Rect.unit (s := S4x256x1024) ![3, 0, 0] ![1, 256, 1024] h) = slab x 3 := ld_slab x 3 h

/-! ### What a grid point leaves in the three result blocks -/

section
variable (c : Dev nD) (t : Fin cfg0.N) (x0 : Vec F S4x256x1024 .f32) (x1 : Vec F S1024x256 .f32)

theorem out2_A (h : cond0_0 (grid0.coords t)) :
    out0_A_2 c (grid0.coords t) (ms0_0 t) (hs0_0 t) (ms0_1 t) (hs0_1 t) (ms0_2 t) (hs0_2 t) (ms0_3 t) (hs0_3 t)
      (ms0_4 t) (hs0_4 t) h x0 x1 = blkQ x0 x1 := by
  unfold out0_A_2
  rw [View.read_writes_eq_canon _ _ _ (cover0_A_2 c _ _ _ _ _ _ _ _ _ _ _ _ _ _)]
  funext y
  refine View.canon_apply_of_pieces _ _ (fun p hp j => ?_) y (cover0_A_2 c _ _ _ _ _ _ _ _ _ _ _ _ _ _ y)
  revert hp
  unfold kernelRun0_A
  dsimp only
  sl_unfold_words
  simp only [List.mem_cons, List.mem_nil_iff, or_false, View.readAt_eq_ld, (hs0_0 t).read_unread, (hs0_1 t).read_unread]
  rintro (rfl | rfl | rfl | rfl)
  · rw [ld_cb, ld_slab3, took3]; exact piece_q x0 x1 3 inb_S4x256x1024_S1x256x1024_3_0_0 j
  · rw [ld_cb, ld_slab2, took2]; exact piece_q x0 x1 2 inb_S4x256x1024_S1x256x1024_2_0_0 j
  · rw [ld_cb, ld_slab1, took1]; exact piece_q x0 x1 1 inb_S4x256x1024_S1x256x1024_1_0_0 j
  · rw [ld_cb, ld_slab0]; exact piece_q x0 x1 0 inb_S4x256x1024_S1x256x1024_0_0_0 j

theorem out3_A (h : cond0_0 (grid0.coords t)) :
    out0_A_3 c (grid0.coords t) (ms0_0 t) (hs0_0 t) (ms0_1 t) (hs0_1 t) (ms0_2 t) (hs0_2 t) (ms0_3 t) (hs0_3 t)
      (ms0_4 t) (hs0_4 t) h x0 x1 = blkI x0 x1 := by
  unfold out0_A_3
  rw [View.read_writes_eq_canon _ _ _ (cover0_A_3 c _ _ _ _ _ _ _ _ _ _ _ _ _ _)]
  funext y
  refine View.canon_apply_of_pieces _ _ (fun p hp j => ?_) y (cover0_A_3 c _ _ _ _ _ _ _ _ _ _ _ _ _ _ y)
  revert hp
  unfold kernelRun0_A
  dsimp only
  sl_unfold_words
  simp only [List.mem_cons, List.mem_nil_iff, or_false, View.readAt_eq_ld, (hs0_0 t).read_unread, (hs0_1 t).read_unread]
  rintro (rfl | rfl | rfl | rfl)
  · rw [ld_cb, ld_slab3, num3]; dsimp only; exact piece_i x0 x1 3 inb_S4x1x1024_S1x1x1024_3_0_0 j
  · rw [ld_cb, ld_slab2, num2]; dsimp only; exact piece_i x0 x1 2 inb_S4x1x1024_S1x1x1024_2_0_0 j
  · rw [ld_cb, ld_slab1, num1]; dsimp only; exact piece_i x0 x1 1 inb_S4x1x1024_S1x1x1024_1_0_0 j
  · rw [ld_cb, ld_slab0]; dsimp only; exact piece_i x0 x1 0 inb_S4x1x1024_S1x1x1024_0_0_0 j

theorem out4_A (h : cond0_0 (grid0.coords t)) :
    out0_A_4 c (grid0.coords t) (ms0_0 t) (hs0_0 t) (ms0_1 t) (hs0_1 t) (ms0_2 t) (hs0_2 t) (ms0_3 t) (hs0_3 t)
      (ms0_4 t) (hs0_4 t) h x0 x1 = addf (shapeCast S1x1 k0_pay2 shapeCasts_S1x1_S1x1) (blkL x0 x1) := by
  unfold out0_A_4
  rw [View.read_writes_eq_canon _ _ _ (cover0_A_4 c _ _ _ _ _ _ _ _ _ _ _ _ _ _)]
  unfold kernelRun0_A
  dsimp only
  sl_unfold_words
  simp only [View.readAt_eq_ld, (hs0_0 t).read_unread, (hs0_1 t).read_unread]
  rw [ld_cb, ld_slab0, ld_slab1, ld_slab2, ld_slab3, low1, low2, low3, share1, share2, share3, View.readCov_unit_zero _ hz2]
  exact View.canon_cons_unit_zero hz2 _ _ _

theorem out2_B (h : ¬cond0_0 (grid0.coords t)) (xo : Vec F S1x1 .f32) :
    out0_B_2 c (grid0.coords t) (ms0_0 t) (hs0_0 t) (ms0_1 t) (hs0_1 t) (ms0_2 t) (hs0_2 t) (ms0_3 t) (hs0_3 t)
      (ms0_4 t) (hs0_4 t) h x0 x1 xo = blkQ x0 x1 := by
  unfold out0_B_2
  rw [View.read_writes_eq_canon _ _ _ (cover0_B_2 c _ _ _ _ _ _ _ _ _ _ _ _ _ _ _)]
  funext y
  refine View.canon_apply_of_pieces _ _ (fun p hp j => ?_) y (cover0_B_2 c _ _ _ _ _ _ _ _ _ _ _ _ _ _ _ y)
  revert hp
  unfold kernelRun0_B
  dsimp only
  sl_unfold_words
  simp only [List.mem_cons, List.mem_nil_iff, or_false, View.readAt_eq_ld, (hs0_0 t).read_unread, (hs0_1 t).read_unread]
  rintro (rfl | rfl | rfl | rfl)
  · rw [ld_cb, ld_slab3, took3]; exact piece_q x0 x1 3 inb_S4x256x1024_S1x256x1024_3_0_0 j
  · rw [ld_cb, ld_slab2, took2]; exact piece_q x0 x1 2 inb_S4x256x1024_S1x256x1024_2_0_0 j
  · rw [ld_cb, ld_slab1, took1]; exact piece_q x0 x1 1 inb_S4x256x1024_S1x256x1024_1_0_0 j
  · rw [ld_cb, ld_slab0]; exact piece_q x0 x1 0 inb_S4x256x1024_S1x256x1024_0_0_0 j

theorem out3_B (h : ¬cond0_0 (grid0.coords t)) (xo : Vec F S1x1 .f32) :
    out0_B_3 c (grid0.coords t) (ms0_0 t) (hs0_0 t) (ms0_1 t) (hs0_1 t) (ms0_2 t) (hs0_2 t) (ms0_3 t) (hs0_3 t)
      (ms0_4 t) (hs0_4 t) h x0 x1 xo = blkI x0 x1 := by
  unfold out0_B_3
  rw [View.read_writes_eq_canon _ _ _ (cover0_B_3 c _ _ _ _ _ _ _ _ _ _ _ _ _ _ _)]
  funext y
  refine View.canon_apply_of_pieces _ _ (fun p hp j => ?_) y (cover0_B_3 c _ _ _ _ _ _ _ _ _ _ _ _ _ _ _ y)
  revert hp
  unfold kernelRun0_B
  dsimp only
  sl_unfold_words
  simp only [List.mem_cons, List.mem_nil_iff, or_false, View.readAt_eq_ld, (hs0_0 t).read_unread, (hs0_1 t).read_unread]
  rintro (rfl | rfl | rfl | rfl)
  · rw [ld_cb, ld_slab3, num3]; dsimp only; exact piece_i x0 x1 3 inb_S4x1x1024_S1x1x1024_3_0_0 j
  · rw [ld_cb, ld_slab2, num2]; dsimp only; exact piece_i x0 x1 2 inb_S4x1x1024_S1x1x1024_2_0_0 j
  · rw [ld_cb, ld_slab1, num1]; dsimp only; exact piece_i x0 x1 1 inb_S4x1x1024_S1x1x1024_1_0_0 j
  · rw [ld_cb, ld_slab0]; dsimp only; exact piece_i x0 x1 0 inb_S4x1x1024_S1x1x1024_0_0_0 j

theorem out4_B (h : ¬cond0_0 (grid0.coords t)) (xo : Vec F S1x1 .f32) :
    out0_B_4 c (grid0.coords t) (ms0_0 t) (hs0_0 t) (ms0_1 t) (hs0_1 t) (ms0_2 t) (hs0_2 t) (ms0_3 t) (hs0_3 t)
      (ms0_4 t) (hs0_4 t) h x0 x1 xo = addf (shapeCast S1x1 xo shapeCasts_S1x1_S1x1) (blkL x0 x1) := by
  unfold out0_B_4
  rw [View.read_writes_eq_canon _ _ _ (cover0_B_4 c _ _ _ _ _ _ _ _ _ _ _ _ _ _ _)]
  unfold kernelRun0_B
  dsimp only
  sl_unfold_words
  simp only [View.readAt_eq_ld, (hs0_0 t).read_unread, (hs0_1 t).read_unread, (hs0_4 t).read_unread]
  rw [ld_cb, ld_slab0, ld_slab1, ld_slab2, ld_slab3, low1, low2, low3, share1, share2, share3, ld_acc]
  exact View.canon_unit_zero hz2 _ _

end

end Cert.KernelIdeal.Block
-- ==== Proof.KernelValue.lean ====
/-
  What the kernel's three results hold after the run, as functions of the two arguments.

  Grid point `t` reads batches `4 t … 4 t + 3` of the latent and writes the same batches of the first two results; the
  blocks of the four points tile these results.  The third result is one number, which the points add to in turn.
  After the grid two host operations drop unit axes of the second and the third result.
-/
module

public import proofs.«01_k».proof.Proof.KernelBlock

@[expose] public section

noncomputable section

open Cert.KernelIdeal Cert.KernelIdeal.Gen
open Idealize.ShloMosaic Idealize.ShloMosaic.TcCoe Idealize.SL.Sem
open Idealize.ShloMosaic.Pipeline (Dat)
open Idealize.ShloMosaic.ValueIdx

namespace Cert.KernelIdeal.Block

variable {F : FTy → Type} [FloatOps F]

/-- Batch `b` of the latent. -/
def batch (z : Vec F S16x256x1024 .f32) (b : Fin 16) : Vec F S1x256x1024 .f32 := fun y => z (ix3 b (y 1) (y 2))

/-- Batch `j` of a point's block is batch `4 t + j` of the latent. -/
def at4 (t : Fin 4) (j : Fin 4) : Fin 16 := ⟨4 * t.val + j.val, by omega⟩

/-- Batches `4 t … 4 t + 3`. -/
def four (z : Vec F S16x256x1024 .f32) (t : Fin 4) : Vec F S4x256x1024 .f32 := fun y => z (ix3 (at4 t (y 0)) (y 1) (y 2))

theorem slab_four (z : Vec F S16x256x1024 .f32) (t : Fin 4) (j : Fin 4) : slab (four z t) j = batch z (at4 t j) := rfl

/-- The first two results before the host operations. -/
def arrQ (z : Vec F S16x256x1024 .f32) (cb : Vec F S1024x256 .f32) : Vec F S16x256x1024 .f32 :=
  fun y => k0_pay11 (took cb (batch z (y 0))) (ix3 (0 : Fin 1) (y 1) (y 2))
def arrI (z : Vec F S16x256x1024 .f32) (cb : Vec F S1024x256 .f32) : Vec F S16x1x1024 .i32 :=
  fun y => k0_pay9 cb (batch z (y 0)) (ix3 (0 : Fin 1) (y 1) (y 2))

/-- The running sum of the loss with a block's share added. -/
def more (p : FVec F S1x1 .f32) (x0 : Vec F S4x256x1024 .f32) (x1 : Vec F S1024x256 .f32) : FVec F S1x1 .f32 :=
  addf (shapeCast S1x1 p shapeCasts_S1x1_S1x1) (blkL x0 x1)
/-- The third result: the four points' shares added in turn to zero. -/
def arrL (z : Vec F S16x256x1024 .f32) (cb : Vec F S1024x256 .f32) : FVec F S1x1 .f32 :=
  more (more (more (more k0_pay2 (four z 0) cb) (four z 1) cb) (four z 2) cb) (four z 3) cb

end Cert.KernelIdeal.Block

namespace Cert.KernelIdeal.Value

open Cert.KernelIdeal.Block

variable {F : FTy → Type} [FloatOps F]
variable (m : (ℓ : Loc nD τ sig) → Buf (Elt F) ℓ) (ρ : Dev nD → PrngReg)

/-- The arguments. -/
abbrev zz (c : Dev nD) : Vec F S16x256x1024 .f32 := m ((c : Thread nD τ).loc main_arg0)
abbrev cc (c : Dev nD) : Vec F S1024x256 .f32 := m ((c : Thread nD τ).loc main_arg1)

/-! ### The blocks a point reads -/

/-- A point as a number below four. -/
abbrev pt (t : Fin cfg0.N) : Fin 4 := ⟨t.val, t.isLt⟩

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem emb0 (t : Fin cfg0.N) (y : S4x256x1024.Idx) :
    (win0_0.blk t).view.emb y = ix3 (at4 (pt t) (y 0)) (y 1) (y 2) := by
  obtain ⟨h0, h1, h2⟩ := idx0 t
  refine funext fun a => Fin.ext ?_
  match a with
  | ⟨0, _⟩ => show win0_0.index t (0 : Fin 3) * 4 + 1 * (y 0).val = 4 * t.val + (y 0).val; omega
  | ⟨1, _⟩ => show win0_0.index t (1 : Fin 3) * 256 + 1 * (y 1).val = (y 1).val; omega
  | ⟨2, _⟩ => show win0_0.index t (2 : Fin 3) * 1024 + 1 * (y 2).val = (y 2).val; omega
theorem emb2 (t : Fin cfg0.N) (y : S4x256x1024.Idx) :
    (win0_2.blk t).view.emb y = ix3 (at4 (pt t) (y 0)) (y 1) (y 2) := by
  obtain ⟨h0, h1, h2⟩ := idx2 t
  refine funext fun a => Fin.ext ?_
  match a with
  | ⟨0, _⟩ => show win0_2.index t (0 : Fin 3) * 4 + 1 * (y 0).val = 4 * t.val + (y 0).val; omega
  | ⟨1, _⟩ => show win0_2.index t (1 : Fin 3) * 256 + 1 * (y 1).val = (y 1).val; omega
  | ⟨2, _⟩ => show win0_2.index t (2 : Fin 3) * 1024 + 1 * (y 2).val = (y 2).val; omega
theorem emb3 (t : Fin cfg0.N) (y : S4x1x1024.Idx) :
    (win0_3.blk t).view.emb y = ix3 (at4 (pt t) (y 0)) (y 1) (y 2) := by
  obtain ⟨h0, h1, h2⟩ := idx3 t
  refine funext fun a => Fin.ext ?_
  match a with
  | ⟨0, _⟩ => show win0_3.index t (0 : Fin 3) * 4 + 1 * (y 0).val = 4 * t.val + (y 0).val; omega
  | ⟨1, _⟩ => show win0_3.index t (1 : Fin 3) * 1 + 1 * (y 1).val = (y 1).val; omega
  | ⟨2, _⟩ => show win0_3.index t (2 : Fin 3) * 1024 + 1 * (y 2).val = (y 2).val; omega
theorem emb1 (t : Fin cfg0.N) (y : S1024x256.Idx) : (win0_1.blk t).view.emb y = y := by
  obtain ⟨h0, h1⟩ := idx1 t
  refine funext fun a => Fin.ext ?_
  match a with
  | ⟨0, _⟩ => show win0_1.index t (0 : Fin 2) * 1024 + 1 * (y 0).val = (y 0).val; omega
  | ⟨1, _⟩ => show win0_1.index t (1 : Fin 2) * 256 + 1 * (y 1).val = (y 1).val; omega
theorem emb4 (t : Fin cfg0.N) (y : S1x1.Idx) : (win0_4.blk t).view.emb y = y := by
  obtain ⟨h0, h1⟩ := idx4 t
  refine funext fun a => Fin.ext ?_
  match a with
  | ⟨0, _⟩ => show win0_4.index t (0 : Fin 2) * 1 + 1 * (y 0).val = (y 0).val; omega
  | ⟨1, _⟩ => show win0_4.index t (1 : Fin 2) * 1 + 1 * (y 1).val = (y 1).val; omega

theorem iblk0_eq (c : Dev nD) (t : Fin cfg0.N) : iblk m c 0 t = four (zz m c) (pt t) := by
  funext y
  show V m c main_arg0 ((win0_0.blk t).view.emb y) = _
  rw [emb0]; rfl
theorem iblk1_eq (c : Dev nD) (t : Fin cfg0.N) : iblk m c 1 t = cc m c := by
  funext y
  show V m c main_arg1 ((win0_1.blk t).view.emb y) = _
  rw [emb1]; rfl

/-! ### What a point writes -/

theorem outs_q (c : Dev nD) (t : Fin cfg0.N) :
    (outsAt0 m c t.val t.isLt).1 = blkQ (four (zz m c) (pt t)) (cc m c) := by
  by_cases h0 : t.val % 4 = 0
  · rw [outsAt0_A m c t h0]; dsimp only; rw [out2_A, iblk0_eq, iblk1_eq]
  · rw [outsAt0_B m c t h0]; dsimp only; rw [out2_B, iblk0_eq, iblk1_eq]
theorem outs_i (c : Dev nD) (t : Fin cfg0.N) :
    (outsAt0 m c t.val t.isLt).2.1 = blkI (four (zz m c) (pt t)) (cc m c) := by
  by_cases h0 : t.val % 4 = 0
  · rw [outsAt0_A m c t h0]; dsimp only; rw [out3_A, iblk0_eq, iblk1_eq]
  · rw [outsAt0_B m c t h0]; dsimp only; rw [out3_B, iblk0_eq, iblk1_eq]
theorem outs_l0 (c : Dev nD) (t : Fin cfg0.N) (h0 : t.val % 4 = 0) :
    (outsAt0 m c t.val t.isLt).2.2 = more k0_pay2 (four (zz m c) (pt t)) (cc m c) := by
  rw [outsAt0_A m c t h0]; dsimp only; rw [out4_A, iblk0_eq, iblk1_eq]; rfl
theorem outs_l (c : Dev nD) (t : Fin cfg0.N) (h0 : ¬t.val % 4 = 0) :
    (outsAt0 m c t.val t.isLt).2.2
      = more (outsAt0 m c (t.val - 1) (Nat.lt_of_le_of_lt (Nat.sub_le _ _) t.isLt)).2.2 (four (zz m c) (pt t)) (cc m c) := by
  rw [outsAt0_B m c t h0]; dsimp only; rw [out4_B, iblk0_eq, iblk1_eq]; rfl

theorem outs_last (c : Dev nD) (h : 3 < cfg0.N) : (outsAt0 m c 3 h).2.2 = arrL (zz m c) (cc m c) := by
  have h3 := outs_l m c ⟨3, h⟩ (show ¬3 % 4 = 0 by decide)
  have h2 := outs_l m c ⟨2, by omega⟩ (show ¬2 % 4 = 0 by decide)
  have h1 := outs_l m c ⟨1, by omega⟩ (show ¬1 % 4 = 0 by decide)
  have h0 := outs_l0 m c ⟨0, by omega⟩ (show 0 % 4 = 0 by decide)
  rw [h3]
  show more (outsAt0 m c 2 _).2.2 _ _ = _
  rw [h2]
  show more (more (outsAt0 m c 1 _).2.2 _ _) _ _ = _
  rw [h1]
  show more (more (more (outsAt0 m c 0 _).2.2 _ _) _ _) _ _ = _
  rw [h0]; rfl

/-! ### The three arrays after the grid -/

theorem flushed2 (c : Dev nD) (t : Fin cfg0.N) :
    (dats m 0 c).flushed 2 t = (win0_2.blk t).view.read (Elt F) (arrQ (zz m c) (cc m c)) := by
  show (cfg0.win 2).cut (grid0.coords t) ((dats m 0 c).after 2 t) = _
  rw [after0_2, outs_q]
  funext y
  show blkQ (four (zz m c) (pt t)) (cc m c) y = arrQ (zz m c) (cc m c) ((win0_2.blk t).view.emb y)
  rw [emb2]; rfl
theorem cut3 (t : Fin cfg0.N) (X : Vec F S4x1x1024 .i32) (G : Vec F S16x1x1024 .i32)
    (h : ∀ y, X y = G ((win0_3.blk t).view.emb y)) :
    (cfg0.win 3).cut (grid0.coords t) X = (win0_3.blk t).view.read (Elt F) G := funext h
theorem flushed3 (c : Dev nD) (t : Fin cfg0.N) :
    (dats m 0 c).flushed 3 t = (win0_3.blk t).view.read (Elt F) (arrI (zz m c) (cc m c)) := by
  show (cfg0.win 3).cut (grid0.coords t) ((dats m 0 c).after 3 t) = _
  rw [after0_3, outs_i]
  refine cut3 t _ _ fun y => ?_
  rw [emb3]; rfl
theorem flushed4 (c : Dev nD) (t : Fin cfg0.N) (hf : (cfg0.win 4).flush t = true) :
    (dats m 0 c).flushed 4 t = (win0_4.blk t).view.read (Elt F) (arrL (zz m c) (cc m c)) := by
  have h := (flush0_4 t).mp hf
  have hN : t.val < 4 := t.isLt
  obtain ⟨n, hn⟩ := t
  obtain rfl : n = 3 := by simp only at h hN; omega
  show (cfg0.win 4).cut (grid0.coords _) ((dats m 0 c).after 4 _) = _
  rw [after0_4, outs_last]
  funext y
  show arrL _ _ y = arrL _ _ ((win0_4.blk _).view.emb y)
  rw [emb4]

theorem cover2 (i : S16x256x1024.Idx) :
    ∃ t : Fin cfg0.N, (cfg0.win 2).flush t = true ∧ i ∈ ((cfg0.win 2).blk t).view.set := by
  have h : (i 0).val < 16 := (i 0).isLt
  let t : Fin cfg0.N := ⟨(i 0).val / 4, show (i 0).val / 4 < 4 by omega⟩
  refine ⟨t, flush0_2 t, ?_⟩
  have e : (win0_2.blk t).view.emb (ix3 (⟨(i 0).val % 4, by omega⟩ : Fin 4) (i 1) (i 2)) = i := by
    rw [emb2]
    refine Eq.trans (congrArg (fun a => ix3 a (i 1) (i 2)) (Fin.ext ?_)) (eq_ix3 i).symm
    show 4 * ((i 0).val / 4) + (i 0).val % 4 = (i 0).val
    omega
  rw [← e]
  exact View.emb_mem_set _ _
theorem cover3 (i : S16x1x1024.Idx) :
    ∃ t : Fin cfg0.N, (cfg0.win 3).flush t = true ∧ i ∈ ((cfg0.win 3).blk t).view.set := by
  have h : (i 0).val < 16 := (i 0).isLt
  let t : Fin cfg0.N := ⟨(i 0).val / 4, show (i 0).val / 4 < 4 by omega⟩
  refine ⟨t, flush0_3 t, ?_⟩
  have e : (win0_3.blk t).view.emb (ix3 (⟨(i 0).val % 4, by omega⟩ : Fin 4) (i 1) (i 2)) = i := by
    rw [emb3]
    refine Eq.trans (congrArg (fun a => ix3 a (i 1) (i 2)) (Fin.ext ?_)) (eq_ix3 i).symm
    show 4 * ((i 0).val / 4) + (i 0).val % 4 = (i 0).val
    omega
  rw [← e]
  exact View.emb_mem_set _ _
theorem cover4 (i : S1x1.Idx) :
    ∃ t : Fin cfg0.N, (cfg0.win 4).flush t = true ∧ i ∈ ((cfg0.win 4).blk t).view.set := by
  let t : Fin cfg0.N := ⟨3, show 3 < 4 by omega⟩
  refine ⟨t, (flush0_4 t).mpr rfl, ?_⟩
  have e : (win0_4.blk t).view.emb i = i := emb4 t i
  rw [← e]
  exact View.emb_mem_set _ _

theorem final2 (c : Dev nD) : (dats m 0 c).arrAt 2 cfg0.N = arrQ (zz m c) (cc m c) :=
  (dats m 0 c).arrAt_eq_of_cover 2 _ (fun t _ => flushed2 m c t) cover2
theorem final3 (c : Dev nD) : (dats m 0 c).arrAt 3 cfg0.N = arrI (zz m c) (cc m c) :=
  (dats m 0 c).arrAt_eq_of_cover 3 _ (fun t _ => flushed3 m c t) cover3
theorem final4 (c : Dev nD) : (dats m 0 c).arrAt 4 cfg0.N = arrL (zz m c) (cc m c) :=
  (dats m 0 c).arrAt_eq_of_cover 4 _ (fun t h => flushed4 m c t h) cover4

/-! ### The host operations after the grid, and the run -/

/-- The second and third result with the unit axes dropped. -/
def resI (c : Dev nD) : Vec F S16x1024 .i32 := shapeCast S16x1024 (arrI (zz m c) (cc m c)) shapeCasts_S16x1x1024_S16x1024
def resL (c : Dev nD) : FVec F S_ .f32 := shapeCast S_ (arrL (zz m c) (cc m c)) shapeCasts_S1x1_S_

theorem arr_inj : Function.Injective (Pipeline.arrRef spec0) := by decide

theorem tail_v1 (c : Dev nD) :
    Pipeline.afterTail₀ cfgs (dats m) 0 (V0 m) [hostOps1] c main_v1 = resI m c := by
  have h := Pipeline.withArrays_arr spec0 arr_inj c (V0 m c) (fun w => (dats m 0 c).arrAt w cfg0.N) 3
  unfold Pipeline.afterTail₀ resI
  rw [← final3]
  simp only [List.flatten_cons, List.flatten_nil, List.append_nil]
  after_results_simp
  exact congrArg (fun x => shapeCast S16x1024 x shapeCasts_S16x1x1024_S16x1024) h
theorem tail_v2 (c : Dev nD) :
    Pipeline.afterTail₀ cfgs (dats m) 0 (V0 m) [hostOps1] c main_v2 = resL m c := by
  have h := Pipeline.withArrays_arr spec0 arr_inj c (V0 m c) (fun w => (dats m 0 c).arrAt w cfg0.N) 4
  unfold Pipeline.afterTail₀ resL
  rw [← final4]
  simp only [List.flatten_cons, List.flatten_nil, List.append_nil]
  after_results_simp
  exact congrArg (fun x => shapeCast S_ x shapeCasts_S1x1_S_) h

theorem rest_v1 : main_v1 ∈ Pipeline.restRefs sig spec0 := by decide
theorem rest_v2 : main_v2 ∈ Pipeline.restRefs sig spec0 := by decide

/-- Every weakly fair run ends with the three results at these functions of the arguments, and the arguments as they
    were. -/
theorem run : θ_run defs (onTc (τ := τ) (main (F := F))) ⟨m, fun _ => 0, ρ⟩ fun r => ∀ c : Dev nD,
      r.2.mem ((c : Thread nD τ).loc main_v0_0) = arrQ (zz m c) (cc m c)
      ∧ r.2.mem ((c : Thread nD τ).loc main_v1) = resI m c
      ∧ r.2.mem ((c : Thread nD τ).loc main_v2) = resL m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c),
      ((h c).2 main_v1 rest_v1).trans (tail_v1 m c),
      ((h c).2 main_v2 rest_v2).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value
-- ==== Proof.Math.lean ====
/-
  The mathematics of the nearest codebook entry, over the reals and the extended reals, with no program in sight: the
  first index at which a function is least, the three ways in which the programs look for it, and sums of finite values.
-/
module

public import Idealize.ShloMosaic.Lib.Pointwise
public import Idealize.ShloMosaic.PureOps.Ideal.Laws
public import Idealize.ShloMosaic.Lib.SortNet.Extract

@[expose] public section

noncomputable section

open Idealize.ShloMosaic

namespace Cert.Nearest

/-! ## Finite sums and the constants -/

/-- A sum of finite extended reals is the sum of the reals. -/
theorem sum_coe {ι : Type*} [Fintype ι] (f : ι → ℝ) : (∑ i, ((f i : ℝ) : EReal)) = ((∑ i, f i : ℝ) : EReal) := by
  classical
  have h : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

theorem half_eq : Ideal.ofBits .f32 0x3F000000#32 = (((1 / 2 : ℝ) : ℝ) : EReal) := by
  simp [Ideal.ofBits, Ideal.ieee]
  rw [← EReal.coe_mul]; norm_num
theorem two_eq : Ideal.ofBits .f32 0x40000000#32 = ((2 : ℝ) : EReal) := by
  simp [Ideal.ofBits, Ideal.ieee]
  rw [← EReal.coe_mul]; norm_num
theorem share_eq : Ideal.ofBits .f32 0x34800000#32 = (((1 / 4194304 : ℝ) : ℝ) : EReal) := by
  simp [Ideal.ofBits, Ideal.ieee]
  rw [← EReal.coe_mul]; norm_num
theorem count_eq : Ideal.ofBits .f32 0x4A800000#32 = ((4194304 : ℝ) : EReal) := by
  simp [Ideal.ofBits, Ideal.ieee]
  rw [← EReal.coe_mul]; norm_num
theorem top_eq : Ideal.ofBits .f32 0x7F800000#32 = (⊤ : EReal) := by
  simp [Ideal.ofBits, Ideal.ieee]

/-! ## The first index of the least value -/

/-- `n` is the first index at which `f` is least. -/
def IsFirst (f : Fin 1024 → ℝ) (n : Fin 1024) : Prop := (∀ k, f n ≤ f k) ∧ ∀ k, k < n → f n < f k

theorem IsFirst.unique {f : Fin 1024 → ℝ} {n n' : Fin 1024} (h : IsFirst f n) (h' : IsFirst f n') : n = n' := by
  rcases lt_trichotomy n n' with hl | he | hl
  · exact absurd (h.1 n') (not_le.2 (h'.2 n hl))
  · exact he
  · exact absurd (h'.1 n) (not_le.2 (h.2 n' hl))

theorem exists_first (f : Fin 1024 → ℝ) : ∃ n, IsFirst f n := by
  obtain ⟨p, -, hp⟩ := Finset.exists_min_image (Finset.univ : Finset (Fin 1024)) (fun k => toLex (f k, k)) ⟨0, Finset.mem_univ _⟩
  have hp' : ∀ k, f p < f k ∨ f p = f k ∧ p ≤ k := fun k => by
    have := hp k (Finset.mem_univ _)
    rwa [Prod.Lex.toLex_le_toLex] at this
  refine ⟨p, fun k => ?_, fun k hk => ?_⟩
  · rcases hp' k with h | h
    · exact h.le
    · exact h.1.le
  · rcases hp' k with h | h
    · exact h
    · exact absurd h.2 (not_le.2 hk)

/-- Doubling every value does not move the first least index. -/
theorem IsFirst.of_double {f : Fin 1024 → ℝ} {n : Fin 1024} (h : IsFirst (fun k => 2 * f k) n) : IsFirst f n :=
  ⟨fun k => by have := h.1 k; dsimp only at this; linarith, fun k hk => by have := h.2 k hk; dsimp only at this; linarith⟩

/-! ## The least value by a running minimum -/

/-- The running minimum from `⊤` is the value at the first least index. -/
theorem fold_min_eq {f : Fin 1024 → ℝ} {n : Fin 1024} (h : IsFirst f n) (g : Fin 1024 → EReal) (hg : ∀ k, g k = ((f k : ℝ) : EReal)) :
    Finset.fold min (⊤ : EReal) g Finset.univ = ((f n : ℝ) : EReal) := by
  refine le_antisymm ?_ ?_
  · exact Finset.fold_min_le _ |>.2 (Or.inr ⟨n, Finset.mem_univ _, by rw [hg]⟩)
  · exact Finset.le_fold_min _ |>.2 ⟨le_top, fun k _ => by rw [hg]; exact EReal.coe_le_coe_iff.2 (h.1 k)⟩

/-! ## The first index by a running minimum of words -/

theorem fold_minsi {ι : Type*} [DecidableEq ι] (b : BitVec 32) (w : ι → BitVec 32) (s : Finset ι) :
    (Finset.fold IntOp.minsi b w s = b ∨ ∃ k ∈ s, Finset.fold IntOp.minsi b w s = w k)
      ∧ (Finset.fold IntOp.minsi b w s).toInt ≤ b.toInt
      ∧ ∀ k ∈ s, (Finset.fold IntOp.minsi b w s).toInt ≤ (w k).toInt := by
  induction s using Finset.induction_on with
  | empty => exact ⟨Or.inl rfl, le_refl _, fun k hk => absurd hk (Finset.notMem_empty k)⟩
  | insert a s ha ih =>
    rw [Finset.fold_insert ha]
    obtain ⟨h1, h2, h3⟩ := ih
    generalize Finset.fold IntOp.minsi b w s = r at h1 h2 h3 ⊢
    have hm : (IntOp.minsi (w a) r).toInt = min (w a).toInt r.toInt := SortNet.toInt_minsi _ _
    refine ⟨?_, by rw [hm]; exact (min_le_right _ _).trans h2, fun k hk => ?_⟩
    · have : IntOp.minsi (w a) r = w a ∨ IntOp.minsi (w a) r = r := by
        rcases min_choice (w a).toInt r.toInt with e | e
        · exact Or.inl (BitVec.eq_of_toInt_eq (hm.trans e))
        · exact Or.inr (BitVec.eq_of_toInt_eq (hm.trans e))
      rcases this with e | e
      · exact Or.inr ⟨a, Finset.mem_insert_self _ _, e⟩
      · rw [e]
        rcases h1 with h1 | ⟨k, hk, h1⟩
        · exact Or.inl h1
        · exact Or.inr ⟨k, Finset.mem_insert_of_mem hk, h1⟩
    · rw [hm]
      rcases Finset.mem_insert.1 hk with rfl | hk
      · exact min_le_left _ _
      · exact (min_le_right _ _).trans (h3 k hk)

theorem toInt_small (k : Nat) (h : k < 2048) : (BitVec.ofNat 32 k).toInt = (k : Int) := by
  rw [BitVec.toInt_eq_toNat_of_lt (by rw [BitVec.toNat_ofNat]; omega), BitVec.toNat_ofNat]
  omega

/-- The running minimum, over the indices at which the least value is reached, is the first of them. -/
theorem fold_pick {f : Fin 1024 → ℝ} {n : Fin 1024} (h : IsFirst f n) (g : Fin 1024 → EReal) (hg : ∀ k, g k = ((f k : ℝ) : EReal))
    (low : EReal) (hlow : low = ((f n : ℝ) : EReal)) :
    Finset.fold IntOp.minsi (2147483647#32) (fun x : Fin 1024 => if g x = low then BitVec.ofNat 32 x.val else 1024#32) Finset.univ
      = BitVec.ofNat 32 n.val := by
  obtain ⟨h1, h2, h3⟩ := fold_minsi (2147483647#32) (fun x : Fin 1024 => if g x = low then BitVec.ofNat 32 x.val else 1024#32) Finset.univ
  generalize Finset.fold IntOp.minsi (2147483647#32) (fun x : Fin 1024 => if g x = low then BitVec.ofNat 32 x.val else 1024#32) Finset.univ = r at h1 h2 h3 ⊢
  have hn := h3 n (Finset.mem_univ _)
  rw [if_pos (by rw [hg, hlow]), toInt_small _ (by omega)] at hn
  have hlt : r.toInt < 1024 := by have := n.isLt; omega
  rcases h1 with h1 | ⟨k, -, h1⟩
  · rw [h1] at hlt; exact absurd hlt (by decide)
  · by_cases e : g k = low
    · rw [if_pos e] at h1
      rw [h1, toInt_small _ (by omega)] at hn
      have hfk : f k = f n := EReal.coe_injective (by rw [← hg, e, hlow])
      have hle : k ≤ n := Fin.le_def.2 (by omega)
      rcases hle.lt_or_eq with hl | he
      · exact absurd (h.2 k hl) (by rw [hfk]; exact lt_irrefl _)
      · rw [h1, he]
    · rw [if_neg e] at h1; rw [h1] at hlt; exact absurd hlt (by decide)

/-! ## The first index by a running choice between pairs -/

/-- What a pair of a value and a word is ordered by: the value first, then the word. -/
def key (p : EReal × BitVec 32) : EReal ×ₗ ℤ := toLex (p.1, p.2.toInt)

/-- A running choice which keeps the pair of the smaller key ends in one of the pairs, of least key. -/
theorem foldl_key (f : EReal × BitVec 32 → EReal × BitVec 32 → EReal × BitVec 32)
    (hf : ∀ a b, f a b = if key a < key b then a else b) (l : List (EReal × BitVec 32)) :
    ∀ p, (l.foldl f p = p ∨ l.foldl f p ∈ l) ∧ key (l.foldl f p) ≤ key p ∧ ∀ q ∈ l, key (l.foldl f p) ≤ key q := by
  induction l with
  | nil => exact fun p => ⟨Or.inl rfl, le_refl _, fun q hq => absurd hq List.not_mem_nil⟩
  | cons x l ih =>
    intro p
    rw [List.foldl_cons]
    obtain ⟨h1, h2, h3⟩ := ih (f p x)
    have hp : key (f p x) ≤ key p := by rw [hf]; split_ifs with c; exacts [le_refl _, not_lt.1 c]
    have hx : key (f p x) ≤ key x := by rw [hf]; split_ifs with c; exacts [c.le, le_refl _]
    refine ⟨?_, h2.trans hp, fun q hq => ?_⟩
    · rcases h1 with h1 | h1
      · rw [h1, hf]; split_ifs
        · exact Or.inl rfl
        · exact Or.inr List.mem_cons_self
      · exact Or.inr (List.mem_cons_of_mem _ h1)
    · rcases List.mem_cons.1 hq with rfl | hq
      · exact h2.trans hx
      · exact h3 q hq

/-- The running choice over the pairs `(f k, k)`, in any order, from `⊤`, ends at the first least index. -/
theorem foldl_pick (r : EReal × BitVec 32 → EReal × BitVec 32 → EReal × BitVec 32)
    (hr : ∀ a b, r a b = if key a < key b then a else b) {f : Fin 1024 → ℝ} {n : Fin 1024} (h : IsFirst f n)
    (l : List (EReal × BitVec 32)) (hl : ∀ p, p ∈ l ↔ ∃ k : Fin 1024, p = (((f k : ℝ) : EReal), BitVec.ofNat 32 k.val)) :
    l.foldl r ((⊤ : EReal), 0#32) = (((f n : ℝ) : EReal), BitVec.ofNat 32 n.val) := by
  obtain ⟨h1, -, h3⟩ := foldl_key r hr l ((⊤ : EReal), 0#32)
  generalize l.foldl r ((⊤ : EReal), 0#32) = q at h1 h3 ⊢
  have hn := h3 _ ((hl _).2 ⟨n, rfl⟩)
  unfold key at hn
  rw [Prod.Lex.toLex_le_toLex] at hn
  rcases h1 with h1 | h1
  · rw [h1] at hn
    rcases hn with hn | ⟨hn, -⟩
    · exact absurd hn (not_lt.2 le_top)
    · exact absurd hn.symm (EReal.coe_ne_top _)
  · obtain ⟨k, rfl⟩ := (hl _).1 h1
    dsimp only at hn
    rw [toInt_small _ (by omega), toInt_small _ (by omega), EReal.coe_lt_coe_iff, EReal.coe_eq_coe_iff] at hn
    rcases hn with hn | ⟨hn, hk⟩
    · exact absurd (h.1 k) (not_le.2 hn)
    · have hle : k ≤ n := Fin.le_def.2 (by omega)
      rcases hle.lt_or_eq with hl' | he
      · exact absurd (h.2 k hl') (by rw [hn]; exact lt_irrefl _)
      · rw [he]

/-! ## Distances -/

/-- Half the square of a point, half the square of an entry, less their product. -/
def sc (c : Fin 1024 → Fin 256 → ℝ) (p : Fin 256 → ℝ) (n : Fin 1024) : ℝ :=
  1 / 2 * (∑ ch, p ch * p ch) + 1 / 2 * (∑ ch, c n ch * c n ch) - ∑ ch, c n ch * p ch

/-- Twice that is the squared distance. -/
theorem two_sc (c : Fin 1024 → Fin 256 → ℝ) (p : Fin 256 → ℝ) (n : Fin 1024) :
    2 * sc c p n = ∑ ch, (c n ch - p ch) * (c n ch - p ch) := by
  have e : ∀ ch, (c n ch - p ch) * (c n ch - p ch) = c n ch * c n ch + p ch * p ch - 2 * (c n ch * p ch) := fun ch => by ring
  rw [Finset.sum_congr rfl fun ch _ => e ch, Finset.sum_sub_distrib, Finset.sum_add_distrib, ← Finset.mul_sum]
  unfold sc; ring

/-- The nearest entry to time step `t` of batch `b`. -/
def nst (zr : Fin 16 → Fin 256 → Fin 1024 → ℝ) (cr : Fin 1024 → Fin 256 → ℝ) (b : Fin 16) (t : Fin 1024) : Fin 1024 :=
  Classical.choose (exists_first (sc cr fun ch => zr b ch t))

theorem nst_first (zr : Fin 16 → Fin 256 → Fin 1024 → ℝ) (cr : Fin 1024 → Fin 256 → ℝ) (b : Fin 16) (t : Fin 1024) :
    IsFirst (sc cr fun ch => zr b ch t) (nst zr cr b t) :=
  Classical.choose_spec (exists_first (sc cr fun ch => zr b ch t))

/-- The mean of the squared differences. -/
def mean (zr : Fin 16 → Fin 256 → Fin 1024 → ℝ) (cr : Fin 1024 → Fin 256 → ℝ) : ℝ :=
  (∑ b, ∑ ch, ∑ t, (cr (nst zr cr b t) ch - zr b ch t) * (cr (nst zr cr b t) ch - zr b ch t)) / 4194304

/-- A batch's share of it, by the scores. -/
def part (zr : Fin 16 → Fin 256 → Fin 1024 → ℝ) (cr : Fin 1024 → Fin 256 → ℝ) (b : Fin 16) : ℝ :=
  (∑ t, 2 * sc cr (fun ch => zr b ch t) (nst zr cr b t)) * (1 / 4194304)

/-- The shares add up to the mean. -/
theorem sum_part (zr : Fin 16 → Fin 256 → Fin 1024 → ℝ) (cr : Fin 1024 → Fin 256 → ℝ) :
    ∑ b, part zr cr b = mean zr cr := by
  unfold part mean
  rw [← Finset.sum_mul, mul_one_div]
  congr 1
  refine Finset.sum_congr rfl fun b _ => ?_
  rw [Finset.sum_comm]
  exact Finset.sum_congr rfl fun t _ => two_sc _ _ _

end Cert.Nearest
-- ==== Proof.KernelMath.lean ====
/-
  The kernel's results at finite arguments, read at an index: every time step takes the codebook entry of least score,
  the first one on a tie, and the loss is the sum of the batches' shares.
-/
module

public import proofs.«01_k».proof.Proof.KernelValue
public import proofs.«01_k».proof.Proof.Math

@[expose] public section

noncomputable section

open Cert.KernelIdeal Cert.KernelIdeal.Gen
open Cert.Nearest
open Idealize.ShloMosaic Idealize.ShloMosaic.TcCoe

namespace Cert.KernelIdeal.Block

section OneBatch

variable {cb : Vec Ideal S1024x256 .f32} {zb : Vec Ideal S1x256x1024 .f32}
variable {cr : Fin 1024 → Fin 256 → ℝ} {p : Fin 256 → Fin 1024 → ℝ}
variable (hc : ∀ n ch, cb (ix2 n ch) = ((cr n ch : ℝ) : EReal)) (hz : ∀ ch t, zb (ix3 0 ch t) = ((p ch t : ℝ) : EReal))

include hc hz

theorem score_eq (n t : Fin 1024) : score cb zb (ix2 n t) = ((sc cr (fun ch => p ch t) n : ℝ) : EReal) := by
  unfold score
  pointwise [k0_pay6, k0_pay4]
  simp only [hc, hz, half_eq, ← EReal.coe_mul, sum_coe, ← EReal.coe_add, ← EReal.coe_sub]
  rfl

variable {t n : Fin 1024} (h : IsFirst (sc cr fun ch => p ch t) n)

include h

theorem low_eq : low cb zb (ix1 t) = ((sc cr (fun ch => p ch t) n : ℝ) : EReal) := by
  unfold low
  pointwise [k0_pay7]
  rw [top_eq]
  exact fold_min_eq h _ fun k => score_eq hc hz k t

theorem pick_eq : pick cb zb (ix1 t) = BitVec.ofNat 32 n.val := by
  unfold pick
  pointwise [k0_pay8]
  exact fold_pick h (fun x => k0_pay6 cb zb (ix2 x t)) (fun k => score_eq hc hz k t) _ (low_eq hc hz h)

theorem took_eq (ch : Fin 256) : took cb zb (ix2 ch t) = ((cr n ch : ℝ) : EReal) := by
  unfold took
  pointwise [k0_pay10]
  rw [show k0_pay8 cb zb (ix1 t) = _ from pick_eq hc hz h, Finset.sum_eq_single n]
  · rw [hc]
    have e : (FloatOps.sitofp (F := Ideal) .f32 (BitVec.setWidth 32 (IntOp.cmpi CmpIPredicate.eq (BitVec.ofNat 32 n.val) (BitVec.ofNat 32 n.val))))
        = ((1 : ℝ) : EReal) := by
      have e' : BitVec.setWidth 32 (IntOp.cmpi CmpIPredicate.eq (BitVec.ofNat 32 n.val) (BitVec.ofNat 32 n.val)) = 1#32 := by
        simp [IntOp.cmpi]
      rw [e']
      show (((1#32).toInt : ℝ) : EReal) = _
      norm_num
    rw [e, ← EReal.coe_mul, mul_one]
  · intro k _ hk
    have hne : BitVec.ofNat 32 k.val ≠ BitVec.ofNat 32 n.val := fun e => hk (Fin.ext (by
      have := congrArg BitVec.toNat e
      simp only [BitVec.toNat_ofNat] at this
      omega))
    have e : (FloatOps.sitofp (F := Ideal) .f32 (BitVec.setWidth 32 (IntOp.cmpi CmpIPredicate.eq (BitVec.ofNat 32 k.val) (BitVec.ofNat 32 n.val))))
        = ((0 : ℝ) : EReal) := by
      have e' : BitVec.setWidth 32 (IntOp.cmpi CmpIPredicate.eq (BitVec.ofNat 32 k.val) (BitVec.ofNat 32 n.val)) = 0#32 := by
        show BitVec.setWidth 32 (BitVec.ofBool (BitVec.ofNat 32 k.val == BitVec.ofNat 32 n.val)) = 0#32
        rw [beq_eq_false_iff_ne.2 hne]; rfl
      rw [e']
      show (((0#32).toInt : ℝ) : EReal) = _
      norm_num
    rw [hc, e, ← EReal.coe_mul, mul_zero]; rfl
  · exact fun hn => absurd (Finset.mem_univ _) hn

end OneBatch

theorem share_eq_add {acc : FVec Ideal S1x1 .f32} {mv : FVec Ideal S1024 .f32} {a : ℝ} {e : Fin 1024 → ℝ}
    (ha : acc (ix2 0 0) = ((a : ℝ) : EReal)) (he : ∀ t, mv (ix1 t) = ((e t : ℝ) : EReal)) :
    share acc mv (ix2 0 0) = ((a + (∑ t, 2 * e t) * (1 / 4194304) : ℝ) : EReal) := by
  unfold share
  pointwise [k0_pay12]
  simp only [ha, he, two_eq, share_eq, ← EReal.coe_mul, sum_coe, ← EReal.coe_add]

section Whole

variable {z : Vec Ideal S16x256x1024 .f32} {cb : Vec Ideal S1024x256 .f32}
variable {zr : Fin 16 → Fin 256 → Fin 1024 → ℝ} {cr : Fin 1024 → Fin 256 → ℝ}
variable (hc : ∀ n ch, cb (ix2 n ch) = ((cr n ch : ℝ) : EReal)) (hz : ∀ b ch t, z (ix3 b ch t) = ((zr b ch t : ℝ) : EReal))

include hz in
theorem batch_eq (b : Fin 16) (ch : Fin 256) (t : Fin 1024) : batch z b (ix3 0 ch t) = ((zr b ch t : ℝ) : EReal) := by
  show z (ValueIdx.ix3 b ch t) = _
  rw [← ix3_eq_valueIdx]
  exact hz b ch t

include hc hz

theorem arrQ_eq (b : Fin 16) (ch : Fin 256) (t : Fin 1024) :
    arrQ z cb (ix3 b ch t) = ((cr (nst zr cr b t) ch : ℝ) : EReal) := by
  show k0_pay11 (took cb (batch z b)) (ValueIdx.ix3 (0 : Fin 1) ch t) = _
  rw [← ix3_eq_valueIdx]
  pointwise [k0_pay11]
  exact took_eq hc (batch_eq hz b) (nst_first zr cr b t) ch

theorem arrI_eq (b : Fin 16) (t : Fin 1024) : arrI z cb (ix3 b 0 t) = BitVec.ofNat 32 (nst zr cr b t).val := by
  show k0_pay9 cb (batch z b) (ValueIdx.ix3 (0 : Fin 1) (0 : Fin 1) t) = _
  rw [← ix3_eq_valueIdx]
  pointwise [k0_pay9]
  exact pick_eq hc (batch_eq hz b) (nst_first zr cr b t)

theorem blkL_eq (t : Fin 4) : blkL (four z t) cb (ix2 0 0)
    = ((0 + part zr cr (at4 t 0) + part zr cr (at4 t 1) + part zr cr (at4 t 2) + part zr cr (at4 t 3) : ℝ) : EReal) := by
  have hl : ∀ j s, low cb (slab (four z t) j) (ix1 s) = ((sc cr (fun ch => zr (at4 t j) ch s) (nst zr cr (at4 t j) s) : ℝ) : EReal) :=
    fun j s => by rw [slab_four]; exact low_eq hc (batch_eq hz _) (nst_first zr cr _ s)
  have h0 : (k0_pay5 (F := Ideal)) (ix2 0 0) = ((0 : ℝ) : EReal) := by pointwise [k0_pay5]; rfl
  unfold blkL
  exact share_eq_add (share_eq_add (share_eq_add (share_eq_add h0 (hl 0)) (hl 1)) (hl 2)) (hl 3)

theorem more_eq (t : Fin 4) {q : FVec Ideal S1x1 .f32} {a : ℝ} (hq : q (ix2 0 0) = ((a : ℝ) : EReal)) :
    more q (four z t) cb (ix2 0 0)
      = ((a + (0 + part zr cr (at4 t 0) + part zr cr (at4 t 1) + part zr cr (at4 t 2) + part zr cr (at4 t 3)) : ℝ) : EReal) := by
  unfold more
  pointwise
  rw [hq, blkL_eq hc hz t, ← EReal.coe_add, zero_add]

theorem arrL_eq : arrL z cb (ix2 0 0) = ((mean zr cr : ℝ) : EReal) := by
  have h0 : (k0_pay2 (F := Ideal)) (ix2 0 0) = ((0 : ℝ) : EReal) := by pointwise [k0_pay2]; rfl
  unfold arrL
  rw [more_eq hc hz 3 (more_eq hc hz 2 (more_eq hc hz 1 (more_eq hc hz 0 h0))), ← sum_part]
  congr 1
  have e : ∀ t j : Fin 4, at4 t j = finProdFinEquiv (t, j) := fun t j => Fin.ext (by
    show 4 * t.val + j.val = j.val + 4 * t.val
    omega)
  rw [← (finProdFinEquiv (m := 4) (n := 4)).sum_comp, Fintype.sum_prod_type]
  simp only [← e, Fin.sum_univ_four]
  ring

end Whole

end Cert.KernelIdeal.Block

namespace Cert.KernelIdeal.Value

open Cert.KernelIdeal.Block

variable {m : (ℓ : Loc nD τ sig) → Buf (Elt Ideal) ℓ} {c : Dev nD}
variable {zr : Fin 16 → Fin 256 → Fin 1024 → ℝ} {cr : Fin 1024 → Fin 256 → ℝ}
variable (hc : ∀ n ch, cc m c (ix2 n ch) = ((cr n ch : ℝ) : EReal)) (hz : ∀ b ch t, zz m c (ix3 b ch t) = ((zr b ch t : ℝ) : EReal))

include hc hz

theorem resI_eq (b : Fin 16) (t : Fin 1024) : resI m c (ix2 b t) = BitVec.ofNat 32 (nst zr cr b t).val := by
  unfold resI
  pointwise
  exact arrI_eq hc hz b t

theorem resL_eq : resL m c ix0 = ((mean zr cr : ℝ) : EReal) := by
  unfold resL
  pointwise
  exact arrL_eq hc hz

end Cert.KernelIdeal.Value
-- ==== Proof.RefRun.lean ====
/- The reference's run. Its @main is a straight line of host operations once the calls of @argmin and @_take are
   put in place, so it is given here as a list; the run ends with every result buffer at that list's composed value,
   which is stated through the stages below: the distances, the index of the nearest row, the rows taken, and the
   three results. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The columns of `z`, one row per batch and time step. -/
def rows (z : FVec F S16x256x1024 .f32) : FVec F S16384x256 .f32 :=
  shapeCast S16384x256 (transpose S16x1024x256 [0, 2, 1] z transposes_S16x256x1024_S16x1024x256_0_2_1)
    shapeCasts_S16x1024x256_S16384x256

/-- The squared length of each column of `z`. -/
def zNorm (z : FVec F S16x256x1024 .f32) : FVec F S16384 .f32 :=
  Host.reduceAdd (mulf (rows z) (rows z)) (constant S_ .f32 0x00000000#32) reducesTo_S16384x256_S16384_d1 h_S_

/-- The squared length of each codebook row. -/
def cNorm (cb : FVec F S1024x256 .f32) : FVec F S1024 .f32 :=
  Host.reduceAdd (mulf cb cb) (constant S_ .f32 0x00000000#32) reducesTo_S1024x256_S1024_d1 h_S_

/-- The inner products of the columns of `z` with the codebook rows. -/
def inner (z : FVec F S16x256x1024 .f32) (cb : FVec F S1024x256 .f32) : FVec F S16384x1024 .f32 :=
  Host.dotGeneral dot_S16384x256_S256x1024_S16384x1024_1_0_0_1_n_n none (rows z)
    (transpose S256x1024 [1, 0] cb transposes_S1024x256_S256x1024_1_0)

/-- The squared distances, expanded as the reference expands them. -/
def dists (z : FVec F S16x256x1024 .f32) (cb : FVec F S1024x256 .f32) : FVec F S16384x1024 .f32 :=
  subf
    (addf
      (broadcastInDim S16384x1024 ![0, 1] bcast_S16384x1_S16384x1024_0_1
        (broadcastInDim S16384x1 ![0] bcast_S16384_S16384x1_0 (zNorm z)))
      (broadcastInDim S16384x1024 ![0, 1] bcast_S1x1024_S16384x1024_0_1
        (broadcastInDim S1x1024 ![1] bcast_S1024_S1x1024_1 (cNorm cb))))
    (mulf (broadcastInDim S16384x1024 ![] bcast_S_S16384x1024 (constant S_ .f32 0x40000000#32)) (inner z cb))

/-- The index of the smallest entry of each row. -/
def nearest (d : FVec F S16384x1024 .f32) : IVec S16384 32 :=
  fun j => (Host.argReduce reducer_argmin_f32_i32 d (iotaInDim S16384x1024 32 1) (constant S_ .f32 0x7F800000#32)
    (constantI S_ 32 0#32) reducesTo_S16384x1024_S16384_d1 h_S_ j).2

/-- An index counted from the end when it is negative. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether an index names a codebook row. -/
def inRange (w : IVec S16384x1 32) : IVec S16384 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codebook rows at the given indices. -/
def taken (cb : FVec F S1024x256 .f32) (i : IVec S16384 32) : FVec F S16384x256 .f32 :=
  select (broadcastInDim S16384x256 ![0] bcast_S16384_S16384x256_0 (inRange (wrapped i)))
    (Host.gather gather_S1024x256_S16384x1_S16384x256_1_0_n_n_0_1_1256 cb (wrapped i))
    (broadcastInDim S16384x256 ![] bcast_S_S16384x256 (constant S_ .f32 0x7FC00000#32))

/-- Rows laid out as `z` is. -/
def cols (q : FVec F S16384x256 .f32) : FVec F S16x256x1024 .f32 :=
  transpose S16x256x1024 [0, 2, 1] (shapeCast S16x1024x256 q shapeCasts_S16384x256_S16x1024x256)
    transposes_S16x1024x256_S16x256x1024_0_2_1

/-- The nearest rows, laid out as `z` is. -/
def quant (z : FVec F S16x256x1024 .f32) (cb : FVec F S1024x256 .f32) : FVec F S16x256x1024 .f32 :=
  cols (taken cb (nearest (dists z cb)))

/-- The first result. -/
def resQ (z : FVec F S16x256x1024 .f32) (cb : FVec F S1024x256 .f32) : FVec F S16x256x1024 .f32 :=
  addf z (subf (quant z cb) z)

/-- The second result. -/
def resI (z : FVec F S16x256x1024 .f32) (cb : FVec F S1024x256 .f32) : IVec S16x1024 32 :=
  shapeCast S16x1024 (nearest (dists z cb)) shapeCasts_S16384_S16x1024

/-- The mean squared difference of two arrays. -/
def meanSq (q z : FVec F S16x256x1024 .f32) : FVec F S_ .f32 :=
  Host.divf
    (Host.reduceAdd (mulf (subf q z) (subf q z)) (constant S_ .f32 0x00000000#32) reducesTo_S16x256x1024_S_d0_1_2 h_S_)
    (constant S_ .f32 0x4A800000#32)

/-- The third result. -/
def resL (z : FVec F S16x256x1024 .f32) (cb : FVec F S1024x256 .f32) : FVec F S_ .f32 := meanSq (quant z cb) z

/-! ## The run -/

/-- The operations up to the distances. -/
abbrev distSteps : List (HloOp τ sig (Elt F)) :=
  [ unary main_arg0 main_v0 ((transpose S16x1024x256 [0, 2, 1] · transposes_S16x256x1024_S16x1024x256_0_2_1) : (⟨S16x256x1024, .f32⟩ : BufTy).Contents (Elt F) → (⟨S16x1024x256, .f32⟩ : BufTy).Contents (Elt F)),
    reshape main_v0 main_v1 (rfl : (.f32 : EltTy) = .f32) shapeCasts_S16x1024x256_S16384x256,
    binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- The operations of the call of @argmin. -/
abbrev argSteps : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun x y u v j => (Host.argReduce reducer_argmin_f32_i32 x y u v reducesTo_S16384x1024_S16384_d1 h_S_ j).2) ]

/-- The operations of the call of @_take. -/
abbrev takeSteps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v16) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v16) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v16) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x256, .f32⟩) main_arg1) (TRef.of (T := ⟨S16384x1, .i32⟩) main_call1_v5) (TRef.of (T := ⟨S16384x256, .f32⟩) main_call1_v13) (fun x i => Host.gather gather_S1024x256_S16384x1_S16384x256_1_0_n_n_0_1_1256 x i),
    TRef.unary (TRef.of (T := ⟨S16384, .i1⟩) main_call1_v12) (TRef.of (T := ⟨S16384x256, .i1⟩) main_call1_v14) (broadcastInDim S16384x256 ![0] bcast_S16384_S16384x256_0),
    TRef.nullary (TRef.of (T := ⟨S_, .f32⟩) main_call1_cst) (constant S_ .f32 0x7FC00000#32),
    TRef.unary (TRef.of (T := ⟨S_, .f32⟩) main_call1_cst) (TRef.of (T := ⟨S16384x256, .f32⟩) main_call1_v15) (broadcastInDim S16384x256 ![] bcast_S_S16384x256),
    TRef.ternary (TRef.of (T := ⟨S16384x256, .i1⟩) main_call1_v14) (TRef.of (T := ⟨S16384x256, .f32⟩) main_call1_v13) (TRef.of (T := ⟨S16384x256, .f32⟩) main_call1_v15) (TRef.of (T := ⟨S16384x256, .f32⟩) main_v17) select ]

/-- The operations after the rows are taken. -/
abbrev outSteps : List (HloOp τ sig (Elt F)) :=
  [ reshape main_v17 main_v18 (rfl : (.f32 : EltTy) = .f32) shapeCasts_S16384x256_S16x1024x256,
    unary main_v18 main_v19 ((transpose S16x256x1024 [0, 2, 1] · transposes_S16x1024x256_S16x256x1024_0_2_1) : (⟨S16x1024x256, .f32⟩ : BufTy).Contents (Elt F) → (⟨S16x256x1024, .f32⟩ : BufTy).Contents (Elt F)),
    binary main_v19 main_arg0 main_v20 (subf : (⟨S16x256x1024, .f32⟩ : BufTy).Contents (Elt F) → (⟨S16x256x1024, .f32⟩ : BufTy).Contents (Elt F) → (⟨S16x256x1024, .f32⟩ : BufTy).Contents (Elt F)),
    binary main_v20 main_v20 main_v21 (mulf : (⟨S16x256x1024, .f32⟩ : BufTy).Contents (Elt F) → (⟨S16x256x1024, .f32⟩ : BufTy).Contents (Elt F) → (⟨S16x256x1024, .f32⟩ : BufTy).Contents (Elt F)),
    nullary main_cst_2 (constant S_ .f32 0x00000000#32),
    binary main_v21 main_cst_2 main_v22 ((fun x v => Host.reduceAdd x v reducesTo_S16x256x1024_S_d0_1_2 h_S_) : (⟨S16x256x1024, .f32⟩ : BufTy).Contents (Elt F) → (⟨S_, .f32⟩ : BufTy).Contents (Elt F) → (⟨S_, .f32⟩ : BufTy).Contents (Elt F)),
    nullary main_cst_3 (constant S_ .f32 0x4A800000#32),
    binary main_v22 main_cst_3 main_v23 (Host.divf : (⟨S_, .f32⟩ : BufTy).Contents (Elt F) → (⟨S_, .f32⟩ : BufTy).Contents (Elt F) → (⟨S_, .f32⟩ : BufTy).Contents (Elt F)),
    binary main_v19 main_arg0 main_v24 (subf : (⟨S16x256x1024, .f32⟩ : BufTy).Contents (Elt F) → (⟨S16x256x1024, .f32⟩ : BufTy).Contents (Elt F) → (⟨S16x256x1024, .f32⟩ : BufTy).Contents (Elt F)),
    binary main_arg0 main_v24 main_v25 (addf : (⟨S16x256x1024, .f32⟩ : BufTy).Contents (Elt F) → (⟨S16x256x1024, .f32⟩ : BufTy).Contents (Elt F) → (⟨S16x256x1024, .f32⟩ : BufTy).Contents (Elt F)),
    reshape main_v16 main_v26 (rfl : (.i32 : EltTy) = .i32) shapeCasts_S16384_S16x1024 ]

/-- The operations of @main in order, those of a called function in its call's place. -/
abbrev steps : List (HloOp τ sig (Elt F)) := distSteps ++ (argSteps ++ (takeSteps ++ outSteps))

set_option maxRecDepth 8192 in
/-- @main performs the operations one after the other. -/
theorem main_steps (c : Dev nD) : main (F := F) c = seq steps := rfl

/-- No buffer is scoped. -/
theorem no_refs : (Finset.univ.filter fun b : Ref sig .tc => b.isScoped) = ∅ := by decide

/-- No semaphore is scoped. -/
theorem no_sems : (Finset.univ.filter fun sm : SemLoc sig => sm.isScoped .tc) = ∅ := by decide

theorem distSteps_sub : (distSteps : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

theorem distSteps_fresh : ∀ op ∈ (distSteps : List (HloOp τ sig (Elt F))), op.fresh = ∅ := by
  intro _ h
  (repeat (cases h with | head => rfl | tail _ h => ?_))
  exact nomatch h

theorem argSteps_sub : (argSteps : List (HloOp τ sig (Elt F))).Forall fun op => op.bufs ⊆ tcRefs τ sig :=
  ⟨nullary_bufs_sub .., nullary_bufs_sub .., nullary_bufs_sub .., quaternary_bufs_sub .., quaternary_bufs_sub ..⟩

theorem argSteps_fresh : ∀ op ∈ (argSteps : List (HloOp τ sig (Elt F))), op.fresh = ∅ := by
  intro _ h
  (repeat (cases h with | head => rfl | tail _ h => ?_))
  exact nomatch h

theorem takeSteps_sub : (takeSteps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem takeSteps_fresh : ∀ op ∈ (takeSteps : List (HloOp τ sig (Elt F))), op.fresh = ∅ := by
  intro _ h
  (repeat (cases h with | head => rfl | tail _ h => ?_))
  exact nomatch h

theorem outSteps_sub : (outSteps : List (HloOp τ sig (Elt F))).Forall fun op => op.bufs ⊆ tcRefs τ sig :=
  ⟨reshape_bufs_sub .., unary_bufs_sub .., binary_bufs_sub .., binary_bufs_sub .., nullary_bufs_sub .., binary_bufs_sub .., nullary_bufs_sub .., binary_bufs_sub .., binary_bufs_sub .., binary_bufs_sub .., reshape_bufs_sub ..⟩

theorem outSteps_fresh : ∀ op ∈ (outSteps : List (HloOp τ sig (Elt F))), op.fresh = ∅ := by
  intro _ h
  (repeat (cases h with | head => rfl | tail _ h => ?_))
  exact nomatch h

/-- Every operation stays within the TensorCore's buffers. -/
theorem steps_sub : (steps : List (HloOp τ sig (Elt F))).Forall fun op => op.bufs ⊆ tcRefs τ sig := by
  rw [List.forall_iff_forall_mem]
  intro op h
  rcases List.mem_append.mp h with h | h
  · exact List.forall_iff_forall_mem.mp distSteps_sub op h
  rcases List.mem_append.mp h with h | h
  · exact List.forall_iff_forall_mem.mp argSteps_sub op h
  rcases List.mem_append.mp h with h | h
  · exact List.forall_iff_forall_mem.mp takeSteps_sub op h
  · exact List.forall_iff_forall_mem.mp outSteps_sub op h

/-- Every operation determines its results. -/
theorem steps_fresh : ∀ op ∈ (steps : List (HloOp τ sig (Elt F))), op.fresh = ∅ := by
  intro op h
  rcases List.mem_append.mp h with h | h
  · exact distSteps_fresh op h
  rcases List.mem_append.mp h with h | h
  · exact argSteps_fresh op h
  rcases List.mem_append.mp h with h | h
  · exact takeSteps_fresh op h
  · exact outSteps_fresh op h

/-! ### What each stretch of operations leaves -/

section
variable (V : Valuation τ sig (Elt F))

theorem dist_v15 : after distSteps V (Proc.devRef .tc main_v15)
    = dists (V (Proc.devRef .tc main_arg0)) (V (Proc.devRef .tc main_arg1)) := by
  after_results_simp; rfl

theorem dist_main_arg0 : after distSteps V (Proc.devRef .tc main_arg0) = V (Proc.devRef .tc main_arg0) := by
  after_results_simp

theorem dist_main_arg1 : after distSteps V (Proc.devRef .tc main_arg1) = V (Proc.devRef .tc main_arg1) := by
  after_results_simp

theorem arg_v16 : after argSteps V (Proc.devRef .tc main_v16) = nearest (V (Proc.devRef .tc main_v15)) := by
  simp only [argSteps, TRef.binary, TRef.nullary, TRef.ternary, TRef.quaternary, TRef.unary, TRef.toBuf, TRef.ofBuf, cast_eq]
  after_results_simp; rfl

theorem arg_main_arg0 : after argSteps V (Proc.devRef .tc main_arg0) = V (Proc.devRef .tc main_arg0) := by
  simp only [argSteps, TRef.binary, TRef.nullary, TRef.ternary, TRef.quaternary, TRef.unary, TRef.toBuf, TRef.ofBuf, cast_eq]
  after_results_simp

theorem arg_main_arg1 : after argSteps V (Proc.devRef .tc main_arg1) = V (Proc.devRef .tc main_arg1) := by
  simp only [argSteps, TRef.binary, TRef.nullary, TRef.ternary, TRef.quaternary, TRef.unary, TRef.toBuf, TRef.ofBuf, cast_eq]
  after_results_simp

theorem take_v17 : after takeSteps V (Proc.devRef .tc main_v17)
    = taken (V (Proc.devRef .tc main_arg1)) (V (Proc.devRef .tc main_v16)) := by
  simp only [takeSteps, TRef.binary, TRef.nullary, TRef.ternary, TRef.quaternary, TRef.unary, TRef.toBuf, TRef.ofBuf, cast_eq]
  after_results_simp; rfl

theorem take_main_arg0 : after takeSteps V (Proc.devRef .tc main_arg0) = V (Proc.devRef .tc main_arg0) := by
  simp only [takeSteps, TRef.binary, TRef.nullary, TRef.ternary, TRef.quaternary, TRef.unary, TRef.toBuf, TRef.ofBuf, cast_eq]
  after_results_simp

theorem take_main_arg1 : after takeSteps V (Proc.devRef .tc main_arg1) = V (Proc.devRef .tc main_arg1) := by
  simp only [takeSteps, TRef.binary, TRef.nullary, TRef.ternary, TRef.quaternary, TRef.unary, TRef.toBuf, TRef.ofBuf, cast_eq]
  after_results_simp

theorem take_main_v16 : after takeSteps V (Proc.devRef .tc main_v16) = V (Proc.devRef .tc main_v16) := by
  simp only [takeSteps, TRef.binary, TRef.nullary, TRef.ternary, TRef.quaternary, TRef.unary, TRef.toBuf, TRef.ofBuf, cast_eq]
  after_results_simp

theorem out_v25 : after outSteps V (Proc.devRef .tc main_v25)
    = addf (V (Proc.devRef .tc main_arg0) : FVec F S16x256x1024 .f32)
        (subf (cols (V (Proc.devRef .tc main_v17))) (V (Proc.devRef .tc main_arg0))) := by
  after_results_simp; rfl

theorem out_v26 : after outSteps V (Proc.devRef .tc main_v26)
    = shapeCast S16x1024 (V (Proc.devRef .tc main_v16) : IVec S16384 32) shapeCasts_S16384_S16x1024 := by
  after_results_simp; rfl

theorem out_v23 : after outSteps V (Proc.devRef .tc main_v23)
    = meanSq (cols (V (Proc.devRef .tc main_v17))) (V (Proc.devRef .tc main_arg0)) := by
  after_results_simp; rfl

theorem out_main_arg0 : after outSteps V (Proc.devRef .tc main_arg0) = V (Proc.devRef .tc main_arg0) := by
  after_results_simp

theorem out_main_arg1 : after outSteps V (Proc.devRef .tc main_arg1) = V (Proc.devRef .tc main_arg1) := by
  after_results_simp

end

/-- Two stretches run one after the other. -/
theorem after_two (V : Valuation τ sig (Elt F)) (l k : List (HloOp τ sig (Elt F))) :
    after (l ++ k) V = after k (after l V) := by
  induction l generalizing V with
  | nil => rfl
  | cons op l ih => exact ih (op.result V)

/-- What all the operations leave, as the operations after one another. -/
theorem after_steps (V : Valuation τ sig (Elt F)) :
    after steps V = after outSteps (after takeSteps (after argSteps (after distSteps V))) := by
  rw [after_two, after_two, after_two]

/-- From any memory with zero counters the reference ends with its results at the stages' values and its arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = resQ (m ((c.tc : Thread nD τ).loc main_arg0)) (m ((c.tc : Thread nD τ).loc main_arg1))
      ∧ r.2.mem ((c.tc : Thread nD τ).loc main_v26)
          = resI (m ((c.tc : Thread nD τ).loc main_arg0)) (m ((c.tc : Thread nD τ).loc main_arg1))
      ∧ r.2.mem ((c.tc : Thread nD τ).loc main_v23)
          = resL (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v25).trans ?_, (h c main_v26).trans ?_,
    (h c main_v23).trans ?_, (h c main_arg0).trans ?_, (h c main_arg1).trans ?_⟩)
    (run_seq no_refs no_sems defs main (fun _ => steps) main_steps (fun _ => steps_sub) m ρ (fun _ => steps_fresh))
  · rw [after_steps, out_v25, take_v17, take_main_arg0, arg_v16, arg_main_arg0, arg_main_arg1, dist_v15,
      dist_main_arg0, dist_main_arg1]
    rfl
  · rw [after_steps, out_v26, take_main_v16, arg_v16, dist_v15]
    rfl
  · rw [after_steps, out_v23, take_v17, take_main_arg0, arg_v16, arg_main_arg0, arg_main_arg1, dist_v15,
      dist_main_arg0, dist_main_arg1]
    rfl
  · rw [after_steps, out_main_arg0, take_main_arg0, arg_main_arg0, dist_main_arg0]
  · rw [after_steps, out_main_arg1, take_main_arg1, arg_main_arg1, dist_main_arg1]

end Cert.ReferenceIdeal.Ref

end
-- ==== Proof.RefDist.lean ====
/-
  The reference's distances at finite arguments are twice the kernel's scores, and its search along a row ends at the
  first least distance.
-/
module

public import proofs.«01_k».proof.Proof.RefRun
public import proofs.«01_k».proof.Proof.Math

@[expose] public section

noncomputable section

open Cert.ReferenceIdeal Cert.ReferenceIdeal.Gen
open Cert.Nearest
open Idealize.ShloMosaic Idealize.ShloMosaic.TcCoe

namespace Cert.ReferenceIdeal.Ref

/-- The row of time step `t` of batch `b`. -/
def row (b : Fin 16) (t : Fin 1024) : Fin 16384 := ⟨b.val * 1024 + t.val, by omega⟩

/-- The body of the search keeps the pair of the smaller key. -/
theorem keeps (a b : EReal × BitVec 32) : reducer_argmin_f32_i32 (F := Ideal) a b = if key a < key b then a else b := by
  obtain ⟨a1, a2⟩ := a
  obtain ⟨b1, b2⟩ := b
  have hk : key (a1, a2) < key (b1, b2) ↔ a1 < b1 ∨ a1 = b1 ∧ a2.toInt < b2.toInt := by
    unfold key; exact Prod.Lex.toLex_lt_toLex
  have hs : a2.slt b2 = decide (a2.toInt < b2.toInt) := rfl
  unfold reducer_argmin_f32_i32
  simp only [hk, Ideal.cmpf_def, Ideal.cmp, IntOp.cmpi, Scalar.select, hs]
  by_cases h1 : a1 < b1
  · simp [h1, h1.ne, IntOp.ori, IntOp.andi]
  · by_cases h2 : a1 = b1
    · by_cases h3 : a2.toInt < b2.toInt <;> simp [h2, h3, IntOp.ori, IntOp.andi]
    · simp [h1, h2, IntOp.ori, IntOp.andi]

/-- The pairs which a search along the rows of an array meets at row `r`. -/
theorem mem_fiber {α β : Type} {n0 n1 : Nat} (x : (⟨2, ![n0, n1]⟩ : Shape).Idx → α) (y : (⟨2, ![n0, n1]⟩ : Shape).Idx → β)
    (h : (⟨2, ![n0, n1]⟩ : Shape).ReducesTo [1] ⟨1, ![n0]⟩) (r : Fin n0) (p : α × β) :
    p ∈ Host.argReduceFiber x y h (ix1 r) ↔ ∃ k : Fin n1, p = (x (ix2 r k), y (ix2 r k)) := by
  unfold Host.argReduceFiber
  rw [List.mem_map]
  constructor
  · rintro ⟨i, hi, rfl⟩
    obtain ⟨k, hk⟩ := (h.fiber_r2_a1 _ _).1 (of_decide_eq_true (List.mem_filter.1 hi).2)
    exact ⟨k, by rw [← hk]; rfl⟩
  · rintro ⟨k, rfl⟩
    refine ⟨Shape.rowMajor _ (ix2 r k), List.mem_filter.2 ⟨List.mem_finRange _, decide_eq_true ?_⟩, ?_⟩
    · rw [Equiv.symm_apply_apply]
      exact (h.fiber_r2_a1 _ _).2 ⟨k, rfl⟩
    · rw [Equiv.symm_apply_apply]

/-- The search along a row with values `f` ends at `f`'s first least index. -/
theorem search {n0 : Nat} (d : FVec Ideal ⟨2, ![n0, 1024]⟩ .f32) (h : (⟨2, ![n0, 1024]⟩ : Shape).ReducesTo [1] ⟨1, ![n0]⟩)
    (r : Fin n0) {f : Fin 1024 → ℝ} {n : Fin 1024} (hf : IsFirst f n) (hd : ∀ k, d (ix2 r k) = ((f k : ℝ) : EReal)) :
    (Host.argReduce reducer_argmin_f32_i32 d (iotaInDim ⟨2, ![n0, 1024]⟩ 32 1) (constant S_ .f32 0x7F800000#32)
      (constantI S_ 32 0#32) h h_S_ (ix1 r)).2 = BitVec.ofNat 32 n.val := by
  rw [Ideal.argReduce_eq_reduce2, Host.reduce2_eq_foldl_fiber]
  have hi : ((constant (F := Ideal) S_ .f32 0x7F800000#32) (Shape.Idx.first h_S_), (constantI S_ 32 0#32) (Shape.Idx.first h_S_))
      = ((⊤ : EReal), 0#32) := by
    show (Ideal.ofBits .f32 0x7F800000#32, 0#32) = _
    rw [top_eq]
  rw [hi, foldl_pick (reducer_argmin_f32_i32 (F := Ideal)) keeps hf]
  intro p
  refine (mem_fiber _ _ _ _ p).trans (exists_congr fun k => ?_)
  rw [hd]
  rfl

section Finite

variable {z : FVec Ideal S16x256x1024 .f32} {cb : FVec Ideal S1024x256 .f32}
variable {zr : Fin 16 → Fin 256 → Fin 1024 → ℝ} {cr : Fin 1024 → Fin 256 → ℝ}
variable (hc : ∀ n ch, cb (ix2 n ch) = ((cr n ch : ℝ) : EReal)) (hz : ∀ b ch t, z (ix3 b ch t) = ((zr b ch t : ℝ) : EReal))

include hz in
theorem rows_eq (b : Fin 16) (t : Fin 1024) (ch : Fin 256) : rows z (ix2 (row b t) ch) = ((zr b ch t : ℝ) : EReal) := by
  pointwise [rows]
  rw [← hz]
  have hb : (row b t).val = b.val * 1024 + t.val := rfl
  congr 2
  · exact Fin.ext (by show (row b t).val / 1024 = b.val; omega)
  · exact Fin.ext (by show (row b t).val % 1024 = t.val; omega)

include hc hz

theorem dists_eq (b : Fin 16) (t n : Fin 1024) :
    dists z cb (ix2 (row b t) n) = ((2 * sc cr (fun ch => zr b ch t) n : ℝ) : EReal) := by
  pointwise [dists, zNorm, cNorm, inner]
  simp only [rows_eq hz, hc, two_eq, ← EReal.coe_mul, sum_coe, ← EReal.coe_add, ← EReal.coe_sub]
  congr 1
  unfold sc
  simp only [mul_comm (zr b _ t)]
  ring

end Finite

end Cert.ReferenceIdeal.Ref
-- ==== Proof.RefValue.lean ====
/-
  The reference's results at finite arguments, read at an index: the index is that of the first entry at the least
  distance, the row taken is that entry, and the loss is the mean.
-/
module

public import proofs.«01_k».proof.Proof.RefDist
public import Idealize.ShloMosaic.Lib.Routing.Ops

@[expose] public section

noncomputable section

open Cert.ReferenceIdeal Cert.ReferenceIdeal.Gen
open Cert.Nearest
open Idealize.ShloMosaic Idealize.ShloMosaic.TcCoe

namespace Cert.ReferenceIdeal.Ref

/-- The nearest index, as a function of the row. -/
theorem nearest_fun (d : FVec Ideal S16384x1024 .f32) : nearest d
    = fun j => (Host.argReduce reducer_argmin_f32_i32 d (iotaInDim S16384x1024 32 1) (constant S_ .f32 0x7F800000#32)
      (constantI S_ 32 0#32) reducesTo_S16384x1024_S16384_d1 h_S_ j).2 := rfl

section Finite

variable {z : FVec Ideal S16x256x1024 .f32} {cb : FVec Ideal S1024x256 .f32}
variable {zr : Fin 16 → Fin 256 → Fin 1024 → ℝ} {cr : Fin 1024 → Fin 256 → ℝ}
variable (hc : ∀ n ch, cb (ix2 n ch) = ((cr n ch : ℝ) : EReal)) (hz : ∀ b ch t, z (ix3 b ch t) = ((zr b ch t : ℝ) : EReal))

include hc hz

theorem nearest_eq (b : Fin 16) (t : Fin 1024) :
    nearest (dists z cb) (ix1 (row b t)) = BitVec.ofNat 32 (nst zr cr b t).val := by
  have h2 : IsFirst (fun n => 2 * sc cr (fun ch => zr b ch t) n) (nst zr cr b t) :=
    ⟨fun k => by have := (nst_first zr cr b t).1 k; dsimp only; linarith,
      fun k hk => by have := (nst_first zr cr b t).2 k hk; dsimp only; linarith⟩
  rw [nearest_fun]
  exact search (dists z cb) reducesTo_S16384x1024_S16384_d1 (row b t) h2 (dists_eq hc hz b t)

end Finite

section Take

variable {cb : FVec Ideal S1024x256 .f32} {i : IVec S16384 32} {r : Fin 16384} {n : Fin 1024}
variable (hi : i (ix1 r) = BitVec.ofNat 32 n.val)

include hi

theorem wrapped_eq : wrapped i (ix2 r 0) = BitVec.ofNat 32 n.val := by
  pointwise [wrapped]
  rw [hi]
  have : IntOp.cmpi CmpIPredicate.slt (BitVec.ofNat 32 n.val) 0#32 = 0#1 := by
    show BitVec.ofBool (decide ((BitVec.ofNat 32 n.val).toInt < (0#32).toInt)) = 0#1
    rw [toInt_small n.val (by omega), decide_eq_false (by simp)]; rfl
  rw [this]; rfl

theorem inRange_eq : inRange (wrapped i) (ix1 r) = 1#1 := by
  pointwise [inRange]
  have h1 : IntOp.cmpi CmpIPredicate.sge (BitVec.ofNat 32 n.val) 0#32 = 1#1 := by
    show BitVec.ofBool (decide ((0#32).toInt ≤ (BitVec.ofNat 32 n.val).toInt)) = 1#1
    rw [toInt_small n.val (by omega), decide_eq_true (by simp)]; rfl
  have h2 : IntOp.cmpi CmpIPredicate.sle (BitVec.ofNat 32 n.val) 1023#32 = 1#1 := by
    show BitVec.ofBool (decide ((BitVec.ofNat 32 n.val).toInt ≤ (1023#32).toInt)) = 1#1
    rw [toInt_small _ (by omega), show (1023#32).toInt = 1023 from rfl, decide_eq_true (by omega)]; rfl
  have hu : (Finset.univ : Finset (Fin 1)) = {0} := rfl
  rw [hu, Finset.fold_singleton, wrapped_eq hi, h1, h2]; rfl

theorem taken_eq (ch : Fin 256) : taken cb i (ix2 r ch) = cb (ix2 n ch) := by
  pointwise [taken]
  rw [inRange_eq hi, ix2_eq_valueIdx, ix2_eq_valueIdx]
  show Host.gather _ cb (wrapped i) _ = _
  exact Routing.gather_row _ rfl rfl rfl rfl rfl cb (wrapped i) r ch n
    (by rw [← ix2_eq_valueIdx]; exact wrapped_eq hi) (by decide)

end Take

section Results

variable {z : FVec Ideal S16x256x1024 .f32} {cb : FVec Ideal S1024x256 .f32}
variable {zr : Fin 16 → Fin 256 → Fin 1024 → ℝ} {cr : Fin 1024 → Fin 256 → ℝ}
variable (hc : ∀ n ch, cb (ix2 n ch) = ((cr n ch : ℝ) : EReal)) (hz : ∀ b ch t, z (ix3 b ch t) = ((zr b ch t : ℝ) : EReal))

include hc hz

theorem quant_eq (b : Fin 16) (ch : Fin 256) (t : Fin 1024) :
    quant z cb (ix3 b ch t) = ((cr (nst zr cr b t) ch : ℝ) : EReal) := by
  unfold quant
  pointwise [cols]
  exact (taken_eq (nearest_eq hc hz b t) ch).trans (hc _ _)

theorem resQ_eq (b : Fin 16) (ch : Fin 256) (t : Fin 1024) :
    resQ z cb (ix3 b ch t) = ((cr (nst zr cr b t) ch : ℝ) : EReal) := by
  pointwise [resQ]
  rw [quant_eq hc hz, hz, ← EReal.coe_sub, ← EReal.coe_add]
  congr 1
  ring

theorem resI_eq (b : Fin 16) (t : Fin 1024) : resI z cb (ix2 b t) = BitVec.ofNat 32 (nst zr cr b t).val := by
  unfold resI
  rw [ix2_eq_valueIdx, Routing.cast12 _ _ b t (row b t) rfl, ← ix1_eq_valueIdx]
  exact nearest_eq hc hz b t

theorem resL_eq : resL z cb ix0 = ((mean zr cr : ℝ) : EReal) := by
  unfold resL
  pointwise [meanSq]
  simp only [quant_eq hc hz, hz, ← EReal.coe_sub, ← EReal.coe_mul, sum_coe, count_eq]
  rw [Ideal.div, if_neg (by simp)]
  rw [← EReal.coe_inv, ← EReal.coe_mul]
  rfl

end Results

end Cert.ReferenceIdeal.Ref
-- ==== Proof.Same.lean ====
/-
  At arguments without infinities the kernel's three results are the reference's.
-/
module

public import proofs.«01_k».proof.Proof.KernelMath
public import proofs.«01_k».proof.Proof.RefValue
public import proofs.«01_k».proof.Proof.Gen.Pre_finite
public import Idealize.ShloMosaic.Lib.ReduceAll

@[expose] public section

noncomputable section

open Cert.Nearest
open Idealize.ShloMosaic Idealize.ShloMosaic.TcCoe

namespace Cert.Same

/-- An extended real whose absolute value is below `⊤` is a real. -/
theorem real_of_abs {x : EReal} (h : Ideal.cmp .olt (max x (-x)) (Ideal.ofBits .f32 0x7F800000#32) = 1#1) :
    x = ((x.toReal : ℝ) : EReal) := by
  rw [top_eq] at h
  have hlt : max x (-x) < ⊤ := by
    by_contra hn
    simp [Ideal.cmp, hn] at h
  refine (EReal.coe_toReal (fun e => ?_) (fun e => ?_)).symm
  · rw [e] at hlt; simp at hlt
  · rw [e] at hlt; simp at hlt

/-- What the precondition says of the entries. -/
theorem entries_real [Cert.Pre_finite.Facts] {z : FVec Ideal Cert.Pre_finite.S16x256x1024 .f32}
    {cb : FVec Ideal Cert.Pre_finite.S1024x256 .f32} (h : Cert.Pre_finite.fn (F := Ideal) z cb = fun _ => 1#1) :
    (∀ i, z i = (((z i).toReal : ℝ) : EReal)) ∧ ∀ i, cb i = (((cb i).toReal : ℝ) : EReal) := by
  have h0 := congrFun h ix0
  unfold Cert.Pre_finite.fn at h0
  obtain ⟨hz, hc⟩ := IntOp.andi_eq_one.1 h0
  have : Subsingleton Cert.Pre_finite.S_.Idx := ⟨fun a b => funext fun k => k.elim0⟩
  exact ⟨fun i => real_of_abs (Host.reduce_andi_all _ _ _ _ _ hz i), fun i => real_of_abs (Host.reduce_andi_all _ _ _ _ _ hc i)⟩

section

variable {z : FVec Ideal Cert.KernelIdeal.S16x256x1024 .f32} {cb : FVec Ideal Cert.KernelIdeal.S1024x256 .f32}
variable (hz : ∀ i, z i = (((z i).toReal : ℝ) : EReal)) (hc : ∀ i, cb i = (((cb i).toReal : ℝ) : EReal))

include hz hc

theorem same_q : Cert.ReferenceIdeal.Ref.resQ z cb = Cert.KernelIdeal.Block.arrQ (F := Ideal) z cb := by
  funext y
  rw [eq_ix3 y]
  exact (Cert.ReferenceIdeal.Ref.resQ_eq (zr := fun b ch t => (z (ix3 b ch t)).toReal) (cr := fun n ch => (cb (ix2 n ch)).toReal)
      (fun n ch => hc _) (fun b ch t => hz _) _ _ _).trans
    (Cert.KernelIdeal.Block.arrQ_eq (zr := fun b ch t => (z (ix3 b ch t)).toReal) (cr := fun n ch => (cb (ix2 n ch)).toReal)
      (fun n ch => hc _) (fun b ch t => hz _) _ _ _).symm

end

section

open Cert.KernelIdeal.Value

variable {m : (ℓ : Loc Cert.KernelIdeal.nD Cert.KernelIdeal.τ Cert.KernelIdeal.sig) → Buf (Elt Ideal) ℓ} {c : Dev Cert.KernelIdeal.nD}
variable (hz : ∀ i, zz m c i = (((zz m c i).toReal : ℝ) : EReal)) (hc : ∀ i, cc m c i = (((cc m c i).toReal : ℝ) : EReal))

include hz hc

theorem same_i : Cert.ReferenceIdeal.Ref.resI (zz m c) (cc m c) = resI m c := by
  funext y
  rw [eq_ix2 y]
  exact (Cert.ReferenceIdeal.Ref.resI_eq (zr := fun b ch t => (zz m c (ix3 b ch t)).toReal) (cr := fun n ch => (cc m c (ix2 n ch)).toReal)
      (fun n ch => hc _) (fun b ch t => hz _) _ _).trans
    (resI_eq (zr := fun b ch t => (zz m c (ix3 b ch t)).toReal) (cr := fun n ch => (cc m c (ix2 n ch)).toReal)
      (fun n ch => hc _) (fun b ch t => hz _) _ _).symm

theorem same_l : Cert.ReferenceIdeal.Ref.resL (zz m c) (cc m c) = resL m c := by
  funext y
  rw [show y = ix0 from funext fun k => k.elim0]
  exact (Cert.ReferenceIdeal.Ref.resL_eq (zr := fun b ch t => (zz m c (ix3 b ch t)).toReal) (cr := fun n ch => (cc m c (ix2 n ch)).toReal)
      (fun n ch => hc _) (fun b ch t => hz _)).trans
    (resL_eq (zr := fun b ch t => (zz m c (ix3 b ch t)).toReal) (cr := fun n ch => (cc m c (ix2 n ch)).toReal)
      (fun n ch => hc _) (fun b ch t => hz _)).symm

end

end Cert.Same
-- ==== Proof.lean ====
/-
  The certificate: both kernels run and leave every semaphore counter at zero, so does the reference, and at arguments without
  infinities the idealized kernel's three results are the reference's.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.Pre_finite
public import proofs.«01_k».proof.Proof.Same
public import Idealize.ShloMosaic.Lib.Quiescent

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono
    (fun r h => ⟨fun c => ⟨(h c).2.2.2.1, (h c).2.2.2.2⟩, sem_eq_zero_of_no_sems rfl r.2⟩)
    (Cert.ReferenceIdeal.Ref.run m g)

theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    fun m g m' g' hpre hargs => by
      have hr := fun c => Cert.Same.entries_real (hpre c)
      refine ⟨fun c => Cert.KernelIdeal.Block.arrQ (Cert.KernelIdeal.Value.zz m c) (Cert.KernelIdeal.Value.cc m c),
        fun c => Cert.KernelIdeal.Value.resI m c, fun c => Cert.KernelIdeal.Value.resL m c,
        Cert.KernelIdeal.Value.run m g, ?_⟩
      refine (θ_run _ _ _).mono (fun r h c => ?_) (Cert.ReferenceIdeal.Ref.run m' g')
      obtain ⟨h0, h1, h2, h3, h4⟩ := h c
      rw [(hargs c).1, (hargs c).2] at h0 h1 h2
      exact ⟨h0.trans (Cert.Same.same_q (hr c).1 (hr c).2), h1.trans (Cert.Same.same_i (hr c).1 (hr c).2),
        h2.trans (Cert.Same.same_l (hr c).1 (hr c).2), h3, h4⟩⟩

end Cert.Proof

end
